-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x12x50000x3 : Shape := ⟨4, ![8, 12, 50000, 3]⟩
abbrev S50000x32 : Shape := ⟨2, ![50000, 32]⟩
abbrev S288x32 : Shape := ⟨2, ![288, 32]⟩
abbrev S7x32 : Shape := ⟨2, ![7, 32]⟩
abbrev S32x36 : Shape := ⟨2, ![32, 36]⟩
abbrev S32 : Shape := ⟨1, ![32]⟩
abbrev S12x3x8x50000 : Shape := ⟨4, ![12, 3, 8, 50000]⟩
abbrev S288x50000 : Shape := ⟨2, ![288, 50000]⟩
abbrev S32x50000 : Shape := ⟨2, ![32, 50000]⟩
abbrev S32x288 : Shape := ⟨2, ![32, 288]⟩
abbrev S32x7 : Shape := ⟨2, ![32, 7]⟩
abbrev S32x1 : Shape := ⟨2, ![32, 1]⟩
abbrev S32x12x3 : Shape := ⟨3, ![32, 12, 3]⟩
abbrev S1x32x12x3x1 : Shape := ⟨5, ![1, 32, 12, 3, 1]⟩
abbrev S8x8 : Shape := ⟨2, ![8, 8]⟩
abbrev S_ : Shape := ⟨0, ![]⟩
abbrev S8x1x1x1x8 : Shape := ⟨5, ![8, 1, 1, 1, 8]⟩
abbrev S8x32x12x3x8 : Shape := ⟨5, ![8, 32, 12, 3, 8]⟩
abbrev S8x32x288 : Shape := ⟨3, ![8, 32, 288]⟩
abbrev S8x50000x128 : Shape := ⟨3, ![8, 50000, 128]⟩
abbrev S288x12800 : Shape := ⟨2, ![288, 12800]⟩
abbrev S1x32x288 : Shape := ⟨3, ![1, 32, 288]⟩
abbrev S32x12800 : Shape := ⟨2, ![32, 12800]⟩
abbrev S1x12800x128 : Shape := ⟨3, ![1, 12800, 128]⟩
abbrev S1x12800 : Shape := ⟨2, ![1, 12800]⟩
abbrev S32x128 : Shape := ⟨2, ![32, 128]⟩
abbrev S32x32 : Shape := ⟨2, ![32, 32]⟩
abbrev S32x96 : Shape := ⟨2, ![32, 96]⟩
abbrev S32x121 : Shape := ⟨2, ![32, 121]⟩
abbrev S1x128 : Shape := ⟨2, ![1, 128]⟩
abbrev S32x128x1 : Shape := ⟨3, ![32, 128, 1]⟩
abbrev S128x12800 : Shape := ⟨2, ![128, 12800]⟩
abbrev S12800x128 : Shape := ⟨2, ![12800, 128]⟩
abbrev S8x128x50000 : Shape := ⟨3, ![8, 128, 50000]⟩
abbrev S8x128x50000x1 : Shape := ⟨4, ![8, 128, 50000, 1]⟩

abbrev nBuf : Space → Nat
  | .hbm => 29
  | .vmem => 11
  | .smem => 0
  | _ => 0

abbrev bufTy : (tb : Table) → Fin (tcTables nBuf tb) → BufTy
  | .hbm, ⟨0, _⟩ => ⟨S8x12x50000x3, .f32⟩
  | .hbm, ⟨1, _⟩ => ⟨S50000x32, .f32⟩
  | .hbm, ⟨2, _⟩ => ⟨S288x32, .f32⟩
  | .hbm, ⟨3, _⟩ => ⟨S7x32, .f32⟩
  | .hbm, ⟨4, _⟩ => ⟨S32x36, .f32⟩
  | .hbm, ⟨5, _⟩ => ⟨S32, .f32⟩
  | .hbm, ⟨6, _⟩ => ⟨S12x3x8x50000, .f32⟩
  | .hbm, ⟨7, _⟩ => ⟨S288x50000, .f32⟩
  | .hbm, ⟨8, _⟩ => ⟨S32x50000, .f32⟩
  | .hbm, ⟨9, _⟩ => ⟨S32x288, .f32⟩
  | .hbm, ⟨10, _⟩ => ⟨S32x7, .f32⟩
  | .hbm, ⟨11, _⟩ => ⟨S32x1, .f32⟩
  | .hbm, ⟨12, _⟩ => ⟨S32x12x3, .f32⟩
  | .hbm, ⟨13, _⟩ => ⟨S1x32x12x3x1, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x1x1x1x8, .f32⟩
  | .hbm, ⟨22, _⟩ => ⟨S8x32x12x3x8, .f32⟩
  | .hbm, ⟨23, _⟩ => ⟨S8x32x12x3x8, .f32⟩
  | .hbm, ⟨24, _⟩ => ⟨S8x32x12x3x8, .f32⟩
  | .hbm, ⟨25, _⟩ => ⟨S8x32x288, .f32⟩
  | .hbm, ⟨26, _⟩ => ⟨S8x50000x128, .f32⟩
  | .hbm, ⟨27, _⟩ => ⟨S8x128x50000, .f32⟩
  | .hbm, ⟨28, _⟩ => ⟨S8x128x50000x1, .f32⟩
  | .local _ .vmem, ⟨0, _⟩ => ⟨S288x12800, .f32⟩
  | .local _ .vmem, ⟨1, _⟩ => ⟨S288x12800, .f32⟩
  | .local _ .vmem, ⟨2, _⟩ => ⟨S1x32x288, .f32⟩
  | .local _ .vmem, ⟨3, _⟩ => ⟨S1x32x288, .f32⟩
  | .local _ .vmem, ⟨4, _⟩ => ⟨S32x1, .f32⟩
  | .local _ .vmem, ⟨5, _⟩ => ⟨S32x12800, .f32⟩
  | .local _ .vmem, ⟨6, _⟩ => ⟨S32x12800, .f32⟩
  | .local _ .vmem, ⟨7, _⟩ => ⟨S32x288, .f32⟩
  | .local _ .vmem, ⟨8, _⟩ => ⟨S32x7, .f32⟩
  | .local _ .vmem, ⟨9, _⟩ => ⟨S1x12800x128, .f32⟩
  | .local _ .vmem, ⟨10, _⟩ => ⟨S1x12800x128, .f32⟩
  | _, _ => ⟨S8x12x50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def k0_off1 (i : grid0.Coords) (c272_i32 : BitVec 32) : Fin 2 → Nat :=
  let arg1 : BitVec 32 := BitVec.ofNat 32 (i 1).val
  let v9 : BitVec 32 := Scalar.addi c272_i32 arg1
  let v10 : Index := Scalar.indexCast v9
  let c0_6 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S288x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x12800x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x12x50000x3 : Shape := ⟨4, ![8, 12, 50000, 3]⟩
abbrev S50000x32 : Shape := ⟨2, ![50000, 32]⟩
abbrev S288x32 : Shape := ⟨2, ![288, 32]⟩
abbrev S7x32 : Shape := ⟨2, ![7, 32]⟩
abbrev S32x36 : Shape := ⟨2, ![32, 36]⟩
abbrev S32 : Shape := ⟨1, ![32]⟩
abbrev S8x50000x12x3 : Shape := ⟨4, ![8, 50000, 12, 3]⟩
abbrev S8x50000x36 : Shape := ⟨3, ![8, 50000, 36]⟩
abbrev S8x36x50000 : Shape := ⟨3, ![8, 36, 50000]⟩
abbrev S8x36x50000x1 : Shape := ⟨4, ![8, 36, 50000, 1]⟩
abbrev S8x50000x1x32 : Shape := ⟨4, ![8, 50000, 1, 32]⟩
abbrev S8x32x50000x1 : Shape := ⟨4, ![8, 32, 50000, 1]⟩
abbrev S1x32x1x1 : Shape := ⟨4, ![1, 32, 1, 1]⟩
abbrev S8x1x50000x1 : Shape := ⟨4, ![8, 1, 50000, 1]⟩
abbrev S8x50000 : Shape := ⟨2, ![8, 50000]⟩
abbrev S_ : Shape := ⟨0, ![]⟩
abbrev S8x50000x1 : Shape := ⟨3, ![8, 50000, 1]⟩
abbrev S1 : Shape := ⟨1, ![1]⟩
abbrev S1x1x1 : Shape := ⟨3, ![1, 1, 1]⟩
abbrev S8x50000x32 : Shape := ⟨3, ![8, 50000, 32]⟩
abbrev S1x50000x32 : Shape := ⟨3, ![1, 50000, 32]⟩
abbrev S8x32x50000 : Shape := ⟨3, ![8, 32, 50000]⟩
abbrev S8x128x50000x1 : Shape := ⟨4, ![8, 128, 50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x12x50000x3, .f32⟩
  | .hbm, ⟨1, _⟩ => ⟨S50000x32, .f32⟩
  | .hbm, ⟨2, _⟩ => ⟨S288x32, .f32⟩
  | .hbm, ⟨3, _⟩ => ⟨S7x32, .f32⟩
  | .hbm, ⟨4, _⟩ => ⟨S32x36, .f32⟩
  | .hbm, ⟨5, _⟩ => ⟨S32, .f32⟩
  | .hbm, ⟨6, _⟩ => ⟨S8x50000x12x3, .f32⟩
  | .hbm, ⟨7, _⟩ => ⟨S8x50000x36, .f32⟩
  | .hbm, ⟨8, _⟩ => ⟨S8x36x50000, .f32⟩
  | .hbm, ⟨9, _⟩ => ⟨S8x36x50000x1, .f32⟩
  | .hbm, ⟨10, _⟩ => ⟨S8x50000x1x32, .f32⟩
  | .hbm, ⟨11, _⟩ => ⟨S8x32x50000x1, .f32⟩
  | .hbm, ⟨12, _⟩ => ⟨S1x32x1x1, .f32⟩
  | .hbm, ⟨13, _⟩ => ⟨S8x32x50000x1, .f32⟩
  | .hbm, ⟨14, _⟩ => ⟨S8x32x50000x1, .f32⟩
  | .hbm, ⟨15, _⟩ => ⟨S8x1x50000x1, .f32⟩
  | .hbm, ⟨16, _⟩ => ⟨S8x50000, .f32⟩
  | .hbm, ⟨17, _⟩ => ⟨S_, .f32⟩
  | .hbm, ⟨18, _⟩ => ⟨S8x50000, .f32⟩
  | .hbm, ⟨19, _⟩ => ⟨S8x50000, .f32⟩
  | .hbm, ⟨20, _⟩ => ⟨S8x50000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S8x50000, .i32⟩
  | .hbm, ⟨25, _⟩ => ⟨S8x50000, .i32⟩
  | .hbm, ⟨26, _⟩ => ⟨S_, .i32⟩
  | .hbm, ⟨27, _⟩ => ⟨S8x50000, .i32⟩
  | .hbm, ⟨28, _⟩ => ⟨S8x50000, .i32⟩
  | .hbm, ⟨29, _⟩ => ⟨S8x1x50000x1, .f32⟩
  | .hbm, ⟨30, _⟩ => ⟨S8x50000, .f32⟩
  | .hbm, ⟨31, _⟩ => ⟨S_, .f32⟩
  | .hbm, ⟨32, _⟩ => ⟨S8x50000, .f32⟩
  | .hbm, ⟨33, _⟩ => ⟨S8x50000, .f32⟩
  | .hbm, ⟨34, _⟩ => ⟨S8x50000, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S8x50000, .i32⟩
  | .hbm, ⟨39, _⟩ => ⟨S8x50000, .i32⟩
  | .hbm, ⟨40, _⟩ => ⟨S_, .i32⟩
  | .hbm, ⟨41, _⟩ => ⟨S8x50000, .i32⟩
  | .hbm, ⟨42, _⟩ => ⟨S8x50000, .i32⟩
  | .hbm, ⟨43, _⟩ => ⟨S_, .i32⟩
  | .hbm, ⟨44, _⟩ => ⟨S8x50000, .i32⟩
  | .hbm, ⟨45, _⟩ => ⟨S8x50000, .i1⟩
  | .hbm, ⟨46, _⟩ => ⟨S_, .i32⟩
  | .hbm, ⟨47, _⟩ => ⟨S8x50000, .i32⟩
  | .hbm, ⟨48, _⟩ => ⟨S8x50000, .i32⟩
  | .hbm, ⟨49, _⟩ => ⟨S8x50000, .i32⟩
  | .hbm, ⟨50, _⟩ => ⟨S8x50000x1, .i32⟩
  | .hbm, ⟨51, _⟩ => ⟨S1, .i32⟩
  | .hbm, ⟨52, _⟩ => ⟨S_, .i32⟩
  | .hbm, ⟨53, _⟩ => ⟨S8x50000x1, .i32⟩
  | .hbm, ⟨54, _⟩ => ⟨S8x50000x1, .i1⟩
  | .hbm, ⟨55, _⟩ => ⟨S1x1x1, .i32⟩
  | .hbm, ⟨56, _⟩ => ⟨S8x50000x1, .i32⟩
  | .hbm, ⟨57, _⟩ => ⟨S8x50000x1, .i1⟩
  | .hbm, ⟨58, _⟩ => ⟨S8x50000x1, .i1⟩
  | .hbm, ⟨59, _⟩ => ⟨S_, .i1⟩
  | .hbm, ⟨60, _⟩ => ⟨S8x50000, .i1⟩
  | .hbm, ⟨61, _⟩ => ⟨S8x50000x32, .f32⟩
  | .hbm, ⟨62, _⟩ => ⟨S8x50000x32, .i1⟩
  | .hbm, ⟨63, _⟩ => ⟨S_, .f32⟩
  | .hbm, ⟨64, _⟩ => ⟨S8x50000x32, .f32⟩
  | .hbm, ⟨65, _⟩ => ⟨S8x50000x32, .f32⟩
  | .hbm, ⟨66, _⟩ => ⟨S_, .i32⟩
  | .hbm, ⟨67, _⟩ => ⟨S8x50000, .i32⟩
  | .hbm, ⟨68, _⟩ => ⟨S8x50000, .i1⟩
  | .hbm, ⟨69, _⟩ => ⟨S_, .i32⟩
  | .hbm, ⟨70, _⟩ => ⟨S8x50000, .i32⟩
  | .hbm, ⟨71, _⟩ => ⟨S8x50000, .i32⟩
  | .hbm, ⟨72, _⟩ => ⟨S8x50000, .i32⟩
  | .hbm, ⟨73, _⟩ => ⟨S8x50000x1, .i32⟩
  | .hbm, ⟨74, _⟩ => ⟨S1, .i32⟩
  | .hbm, ⟨75, _⟩ => ⟨S_, .i32⟩
  | .hbm, ⟨76, _⟩ => ⟨S8x50000x1, .i32⟩
  | .hbm, ⟨77, _⟩ => ⟨S8x50000x1, .i1⟩
  | .hbm, ⟨78, _⟩ => ⟨S1x1x1, .i32⟩
  | .hbm, ⟨79, _⟩ => ⟨S8x50000x1, .i32⟩
  | .hbm, ⟨80, _⟩ => ⟨S8x50000x1, .i1⟩
  | .hbm, ⟨81, _⟩ => ⟨S8x50000x1, .i1⟩
  | .hbm, ⟨82, _⟩ => ⟨S_, .i1⟩
  | .hbm, ⟨83, _⟩ => ⟨S8x50000, .i1⟩
  | .hbm, ⟨84, _⟩ => ⟨S8x50000x32, .f32⟩
  | .hbm, ⟨85, _⟩ => ⟨S8x50000x32, .i1⟩
  | .hbm, ⟨86, _⟩ => ⟨S_, .f32⟩
  | .hbm, ⟨87, _⟩ => ⟨S8x50000x32, .f32⟩
  | .hbm, ⟨88, _⟩ => ⟨S8x50000x32, .f32⟩
  | .hbm, ⟨89, _⟩ => ⟨S1x50000x32, .f32⟩
  | .hbm, ⟨90, _⟩ => ⟨S8x50000x32, .f32⟩
  | .hbm, ⟨91, _⟩ => ⟨S8x32x50000, .f32⟩
  | .hbm, ⟨92, _⟩ => ⟨S8x32x50000x1, .f32⟩
  | .hbm, ⟨93, _⟩ => ⟨S8x32x50000, .f32⟩
  | .hbm, ⟨94, _⟩ => ⟨S8x32x50000x1, .f32⟩
  | .hbm, ⟨95, _⟩ => ⟨S8x32x50000, .f32⟩
  | .hbm, ⟨96, _⟩ => ⟨S8x32x50000x1, .f32⟩
  | .hbm, ⟨97, _⟩ => ⟨S8x128x50000x1, .f32⟩
  | _, _ => ⟨S8x12x50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_c_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v21 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_call3_cst : Ref sig .tc := ⟨.hbm, 86, rfl⟩
abbrev main_call3_v15 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩

abbrev nD : Nat := 1
abbrev τ : Topo := Topo.v7x

variable {F : FTy → Type} [FloatOps F]
-- ==== Proof.Body.lean ====
/-
  What the kernel body does at one grid point, written plainly.

  The printed body spells out the same computation a hundred times, once per slice of 128 columns. Here the slice is
  a parameter: `tidPiece` and `diwPiece` are the looked-up embeddings of slice `j`, and `outBlk` is the block the body
  stores, as a function of what the six input buffers hold. `body` is the program with its loads and its one store, and
  `body_eq` says that the printed function is that program.
-/
module

public import proofs.«01_k».proof.Proof.Gen.KernelIdeal.Skeleton

@[expose] public section

noncomputable section

namespace Cert.Stid

open Cert.KernelIdeal Cert.KernelIdeal.Gen
open Idealize.ShloMosaic Idealize.SL.Sem

variable {F : FTy → Type} [FloatOps F]

/-- A slice of 128 columns lies inside a row of 12800. -/
theorem slice_inside (j : Fin 100) : S1x12800.Slices ![0, 128 * j.val] S1x128 :=
  ⟨rfl, fun a => by
    have := j.isLt
    fin_cases a
    · show 0 + 1 ≤ 1; omega
    · show 128 * j.val + 128 ≤ 12800; omega⟩

/-- Slice `j` of a row of indices, repeated over the 32 embedding coordinates. -/
def sliceOf (v : IVec S1x12800 32) (j : Fin 100) : IVec S32x128 32 :=
  broadcastTo S32x128 (shapeCast S1x128 (extractStridedSlice S1x128 ![0, 128 * j.val] v (slice_inside j))
    shapeCasts_S1x128_S1x128) broadcasts_S1x128_S32x128

/-- A lookup in a table of 128 columns, one column index per element; a negative index counts from the end. -/
def lookup (tab : FVec F S32x128 .f32) (ix : IVec S32x128 32) : FVec F S32x128 .f32 :=
  dynamicGather 1 tab
    (shapeCast S32x128 (shapeCast S32x128x1
      (select (cmpi .slt ix (broadcast S32x128 0#32)) (addi ix (broadcast S32x128 128#32)) ix)
      shapeCasts_S32x128_S32x128x1) shapeCasts_S32x128x1_S32x128)

/-- An index clamped between 0 and `hi`. -/
def clampTo (hi : BitVec 32) (ix : IVec S32x128 32) : IVec S32x128 32 :=
  minsi (broadcast S32x128 hi) (maxsi (broadcast S32x128 0#32) ix)

/-- The time-of-day embedding of one slice: the table of 288 columns is held in three tables of 128 columns. -/
def tidPiece (c0 c1 c2 : FVec F S32x128 .f32) (ix : IVec S32x128 32) : FVec F S32x128 .f32 :=
  select (cmpi .slt ix (broadcast S32x128 128#32)) (lookup c0 (clampTo 127#32 ix))
    (select (cmpi .slt ix (broadcast S32x128 256#32)) (lookup c1 (clampTo 127#32 (subi ix (broadcast S32x128 128#32))))
      (lookup c2 (clampTo 31#32 (subi ix (broadcast S32x128 256#32)))))

/-- A hundred slices of 128 columns make up 12800 columns. -/
theorem pieces_fit (f : Fin 100 → FVec F S32x128 .f32) :
    Shape.Concatenates ((List.ofFn fun j => (⟨S32x128, f j⟩ : (s : Shape) × (s.Idx → F .f32))).map (·.1)) S32x12800 1 := by
  rw [List.map_ofFn]
  show Shape.Concatenates (List.ofFn fun _ : Fin 100 => S32x128) S32x12800 1
  decide +kernel

/-- A hundred slices laid side by side. -/
def row (f : Fin 100 → FVec F S32x128 .f32) : FVec F S32x12800 .f32 :=
  concatenate S32x12800 1 (List.ofFn fun j => ⟨S32x128, f j⟩) (pieces_fit f)

/-- The time-of-day embeddings of a block, from its row of indices and the three tables. -/
def tidRow (v23 : IVec S1x12800 32) (c0 c1 c2 : FVec F S32x128 .f32) : FVec F S32x12800 .f32 :=
  row fun j => tidPiece c0 c1 c2 (sliceOf v23 j)

/-- The day-of-week embeddings of a block, from its row of indices and the table. -/
def diwRow (v30 : IVec S1x12800 32) (dw : FVec F S32x128 .f32) : FVec F S32x12800 .f32 :=
  row fun j => lookup dw (sliceOf v30 j)

/-- What the body stores, from what it loads: the projected series, the node embeddings and the two looked-up
    embeddings, one below the other, transposed. -/
def stored (v0 : Vec F S288x12800 .f32) (v2 : Vec F S1x32x288 .f32) (v5 : Vec F S32x1 .f32) (v11 v15 : Vec F S1x12800 .f32)
    (v31 v33 : Vec F S32x128 .f32) (v35 : Vec F S32x32 .f32) (v39 : Vec F S32x7 .f32) (v45 : Vec F S32x12800 .f32) :
    FVec F S1x12800x128 .f32 :=
  k0_pay2 (k0_pay3 v0 v2 v5) (tidRow (k0_pay4 v11) (k0_pay6 v31) (k0_pay7 v33) (k0_pay8 v35))
    (diwRow (k0_pay5 v15) (k0_pay9 v39)) v45

/-- The body as a program: ten loads, one load whose value is unused, and one store. -/
def body (i : grid0.Coords) (arg2 : Memref sig .tc .vmem S288x12800 .f32) (arg3 : Memref sig .tc .vmem S1x32x288 .f32)
    (arg4 : Memref sig .tc .vmem S32x1 .f32) (arg5 : Memref sig .tc .vmem S32x12800 .f32)
    (arg6 : Memref sig .tc .vmem S32x288 .f32) (arg7 : Memref sig .tc .vmem S32x7 .f32)
    (arg8 : Memref sig .tc .vmem S1x12800x128 .f32) : Prog (TpuEff nD τ sig (Elt F) Λ₀ .tc) PUnit := do
  let v0 : Vec F S288x12800 .f32 ← Prog.lift (.load arg2 (Rect.unit (s := S288x12800) ![0, 0] S288x12800.size inb_S288x12800_S288x12800_0_0).toLoadRect (View.loadsAt_vmem h_S288x12800))
  let v2 : Vec F S1x32x288 .f32 ← Prog.lift (.load arg3 (Rect.unit (s := S1x32x288) ![0, 0, 0] S1x32x288.size inb_S1x32x288_S1x32x288_0_0_0).toLoadRect (View.loadsAt_vmem h_S1x32x288))
  let v5 : Vec F S32x1 .f32 ← Prog.lift (.load arg4 (Rect.unit (s := S32x1) ![0, 0] S32x1.size inb_S32x1_S32x1_0_0).toLoadRect (View.loadsAt_vmem h_S32x1))
  let v11 : Vec F S1x12800 .f32 ← Prog.lift (.load arg2 (Rect.unit (s := S288x12800) (k0_off1 i 272#32) S1x12800.size (k0_off1_inb i 0)).toLoadRect (View.loadsAt_vmem h_S1x12800))
  let v15 : Vec F S1x12800 .f32 ← Prog.lift (.load arg2 (Rect.unit (s := S288x12800) (k0_off1 i 280#32) S1x12800.size (k0_off1_inb i 1)).toLoadRect (View.loadsAt_vmem h_S1x12800))
  let v31 : Vec F S32x128 .f32 ← Prog.lift (.load arg6 (Rect.unit (s := S32x288) ![0, 0] S32x128.size inb_S32x288_S32x128_0_0).toLoadRect (View.loadsAt_vmem h_S32x128))
  let v33 : Vec F S32x128 .f32 ← Prog.lift (.load arg6 (Rect.unit (s := S32x288) ![0, 128] S32x128.size inb_S32x288_S32x128_0_128).toLoadRect (View.loadsAt_vmem h_S32x128))
  let v35 : Vec F S32x32 .f32 ← Prog.lift (.load arg6 (Rect.unit (s := S32x288) ![0, 256] S32x32.size inb_S32x288_S32x32_0_256).toLoadRect (View.loadsAt_vmem h_S32x32))
  let v39 : Vec F S32x7 .f32 ← Prog.lift (.load arg7 (Rect.unit (s := S32x7) ![0, 0] S32x7.size inb_S32x7_S32x7_0_0).toLoadRect (View.loadsAt_vmem h_S32x7))
  let v45 : Vec F S32x12800 .f32 ← Prog.lift (.load arg5 (Rect.unit (s := S32x12800) ![0, 0] S32x12800.size inb_S32x12800_S32x12800_0_0).toLoadRect (View.loadsAt_vmem h_S32x12800))
  let _v49 : Vec F S1x12800x128 .f32 ← Prog.lift (.load arg8 (Rect.unit (s := S1x12800x128) ![0, 0, 0] S1x12800x128.size inb_S1x12800x128_S1x12800x128_0_0_0).toLoadRect (View.loadsAt_vmem h_S1x12800x128))
  Prog.lift (.store arg8 (Rect.unit (s := S1x12800x128) ![0, 0, 0] S1x12800x128.size inb_S1x12800x128_S1x12800x128_0_0_0)
    (stored v0 v2 v5 v11 v15 v31 v33 v35 v39 v45) Finset.univ (View.stores_vmem_bits_univ h_S1x12800x128 rfl) (.inl rfl))
  pure ⟨⟩

set_option maxRecDepth 65536 in
/-- The printed body is `body`. -/
theorem body_eq (i : grid0.Coords) (arg2 : Memref sig .tc .vmem S288x12800 .f32) (harg2 : arg2.IsWhole)
    (arg3 : Memref sig .tc .vmem S1x32x288 .f32) (harg3 : arg3.IsWhole) (arg4 : Memref sig .tc .vmem S32x1 .f32) (harg4 : arg4.IsWhole)
    (arg5 : Memref sig .tc .vmem S32x12800 .f32) (harg5 : arg5.IsWhole) (arg6 : Memref sig .tc .vmem S32x288 .f32) (harg6 : arg6.IsWhole)
    (arg7 : Memref sig .tc .vmem S32x7 .f32) (harg7 : arg7.IsWhole) (arg8 : Memref sig .tc .vmem S1x12800x128 .f32) (harg8 : arg8.IsWhole) :
    cc0__stid_kernel (F := F) i arg2 harg2 arg3 harg3 arg4 harg4 arg5 harg5 arg6 harg6 arg7 harg7 arg8 harg8
      = body i arg2 arg3 arg4 arg5 arg6 arg7 arg8 := rfl

end Cert.Stid

end
-- ==== Proof.Triple.lean ====
/-
  The kernel body run once, at whichever staging buffers it is handed.

  `outBlk` is the block the body leaves in the output buffer as a function of the contents of the six input buffers.
  `body_triple` runs the body: the inputs stay as they were, and the output buffer ends holding `outBlk`.
-/
module

public import proofs.«01_k».proof.Proof.Body
public import proofs.«01_k».proof.Proof.Gen.KernelIdeal.Frame
public import Idealize.ShloMosaic.Lib.WholeRead
public import Idealize.ShloMosaic.Lib.Tactic

@[expose] public section

noncomputable section

namespace Cert.Stid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block of a buffer's contents that a load at `off` of `size` reads. -/
def part {s : Shape} {e : EltTy} (off size : Fin s.rank → ℕ) (h : ∀ a, off a + size a ≤ s.size a) (X : s.Idx → Elt F e) :
    (Rect.unit (s := s) off size h).toLoadRect.shape.Idx → Elt F e :=
  fun x => X ((Rect.unit (s := s) off size h).toLoadRect.idx x)

/-- The block the body leaves in the output buffer, from what the six input buffers hold. -/
def outBlk (i : grid0.Coords) (X0 : S288x12800.Idx → Elt F .f32) (X1 : S1x32x288.Idx → Elt F .f32) (X2 : S32x1.Idx → Elt F .f32)
    (X3 : S32x12800.Idx → Elt F .f32) (X4 : S32x288.Idx → Elt F .f32) (X5 : S32x7.Idx → Elt F .f32) : FVec F S1x12800x128 .f32 :=
  stored (part ![0, 0] S288x12800.size inb_S288x12800_S288x12800_0_0 X0)
    (part ![0, 0, 0] S1x32x288.size inb_S1x32x288_S1x32x288_0_0_0 X1)
    (part ![0, 0] S32x1.size inb_S32x1_S32x1_0_0 X2)
    (part (s := S288x12800) (k0_off1 i 272#32) S1x12800.size (k0_off1_inb i 0) X0)
    (part (s := S288x12800) (k0_off1 i 280#32) S1x12800.size (k0_off1_inb i 1) X0)
    (part (s := S32x288) ![0, 0] S32x128.size inb_S32x288_S32x128_0_0 X4)
    (part (s := S32x288) ![0, 128] S32x128.size inb_S32x288_S32x128_0_128 X4)
    (part (s := S32x288) ![0, 256] S32x32.size inb_S32x288_S32x32_0_256 X4)
    (part ![0, 0] S32x7.size inb_S32x7_S32x7_0_0 X5)
    (part ![0, 0] S32x12800.size inb_S32x12800_S32x12800_0_0 X3)

/-- A load from a whole buffer holding `X` reads the block of `X` there. -/
theorem load_whole {sp : Space} {s : Shape} {e : EltTy} {M : Memref sig .tc sp s e} (h : M.IsWhole) (off size : Fin s.rank → ℕ)
    (hin : ∀ a, off a + size a ≤ s.size a) {f : M.view.ty.Contents (Elt F)} {X : s.Idx → Elt F e} (hf : M.view.read (Elt F) f = X) :
    M.view.readAt (Elt F) (Rect.unit (s := s) off size hin).toLoadRect f = part off size hin X := by
  rw [h.eq_unread hf]; exact funext fun x => h.readAt_unread X _ x

/-- After a store over a whole buffer the buffer holds what was stored. -/
theorem store_whole {sp : Space} {s : Shape} {e : EltTy} {M : Memref sig .tc sp s e} (h : M.IsWhole) {off : Fin s.rank → ℕ}
    (hz : off = fun _ => 0) (hin : ∀ a, off a + s.size a ≤ s.size a) (f : M.view.ty.Contents (Elt F)) (w : s.Idx → Elt F e) :
    M.view.read (Elt F) (M.view.writes (Elt F) f [⟨Rect.unit (s := s) off s.size hin, w⟩]) = w := by
  obtain ⟨b, rfl, rfl, rfl, hm⟩ := h; cases hm
  exact (View.read_whole _ _).trans (Memref.write_access_unit_zero_univ (Elt F) b hz hin f w)

/-- The body, run from its seven buffers held whole. -/
theorem body_triple (c : Dev nD) (E : Set ℕ) (i : grid0.Coords) (arg2 : Memref sig .tc .vmem S288x12800 .f32) (harg2 : arg2.IsWhole)
    (arg3 : Memref sig .tc .vmem S1x32x288 .f32) (harg3 : arg3.IsWhole) (arg4 : Memref sig .tc .vmem S32x1 .f32) (harg4 : arg4.IsWhole)
    (arg5 : Memref sig .tc .vmem S32x12800 .f32) (harg5 : arg5.IsWhole) (arg6 : Memref sig .tc .vmem S32x288 .f32) (harg6 : arg6.IsWhole)
    (arg7 : Memref sig .tc .vmem S32x7 .f32) (harg7 : arg7.IsWhole) (arg8 : Memref sig .tc .vmem S1x12800x128 .f32) (harg8 : arg8.IsWhole)
    (X0 : S288x12800.Idx → Elt F .f32) (X1 : S1x32x288.Idx → Elt F .f32) (X2 : S32x1.Idx → Elt F .f32)
    (X3 : S32x12800.Idx → Elt F .f32) (X4 : S32x288.Idx → Elt F .f32) (X5 : S32x7.Idx → Elt F .f32)
    (X6 : S1x12800x128.Idx → Elt F .f32) (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4 ∗ owns (c : Thread nD τ) arg7 fullShare X5
            ∗ owns (c : Thread nD τ) arg8 fullShare X6)
          ∗ (iprop(owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4 ∗ owns (c : Thread nD τ) arg7 fullShare X5
            ∗ owns (c : Thread nD τ) arg8 fullShare (outBlk i X0 X1 X2 X3 X4 X5)) -∗ K ⟨⟩))
      ⊢ wp frame (wpE (defs₀ (F := F)) Variants.none c none) E
          (cc0__stid_kernel i arg2 harg2 arg3 harg3 arg4 harg4 arg5 harg5 arg6 harg6 arg7 harg7 arg8 harg8) K := by
  rw [body_eq]
  unfold body owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _
  isplitr
  rotate_left
  · iexact H6
  · ipureintro
    have hz : (![0, 0, 0] : Fin 3 → ℕ) = fun _ => 0 := funext fun a => by fin_cases a <;> rfl
    refine (store_whole harg8 hz inb_S1x12800x128_S1x12800x128_0_0_0 f6 _).trans ?_
    rw [load_whole harg2 _ _ _ hf0, load_whole harg3 _ _ _ hf1, load_whole harg4 _ _ _ hf2, load_whole harg2 _ _ _ hf0,
      load_whole harg2 _ _ _ hf0, load_whole harg6 _ _ _ hf4, load_whole harg6 _ _ _ hf4, load_whole harg6 _ _ _ hf4,
      load_whole harg7 _ _ _ hf5, load_whole harg5 _ _ _ hf3]
    rfl

end Cert.Stid

end
-- ==== Proof.KernelFrame.lean ====
/-
  The frame of the kernel at its hardware floats: it runs to its end and leaves its arguments as they were.

  Nothing is said of what the kernel computes, so nothing is said of what its staging buffers hold: the body is run from
  any contents of its seven buffers to some contents of them.
-/
module

public import proofs.«01_k».proof.Proof.Triple
public import proofs.«01_k».proof.Proof.Gen.Kernel.Skeleton
public import proofs.«01_k».proof.Proof.Gen.Kernel.Frame
public import Idealize.ShloMosaic.Lib.Pipeline.FrameSuffix
public import Idealize.ShloMosaic.Lib.Tactic

@[expose] public section

noncomputable section

namespace Cert.StidFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)

variable {F : FTy → Type} [FloatOps F]

local notation "𝕄" => MT nD τ sig Unit (Elt F) ℕ (UR sig nD τ) ℕ

/-- The body's shape as a program: ten loads, one load whose value is unused, and one store of some function `f` of
    what was loaded. -/
def body
    (f : Vec F S288x12800 .f32 → Vec F S1x32x288 .f32 → Vec F S32x1 .f32 → Vec F S1x12800 .f32 → Vec F S1x12800 .f32 →
      Vec F S32x128 .f32 → Vec F S32x128 .f32 → Vec F S32x32 .f32 → Vec F S32x7 .f32 → Vec F S32x12800 .f32 →
      FVec F S1x12800x128 .f32) (i : grid0.Coords) (arg2 : Memref sig .tc .vmem S288x12800 .f32) (arg3 : Memref sig .tc .vmem S1x32x288 .f32)
    (arg4 : Memref sig .tc .vmem S32x1 .f32) (arg5 : Memref sig .tc .vmem S32x12800 .f32)
    (arg6 : Memref sig .tc .vmem S32x288 .f32) (arg7 : Memref sig .tc .vmem S32x7 .f32)
    (arg8 : Memref sig .tc .vmem S1x12800x128 .f32) : Prog (TpuEff nD τ sig (Elt F) Λ₀ .tc) PUnit := do
  let v0 : Vec F S288x12800 .f32 ← Prog.lift (.load arg2 (Rect.unit (s := S288x12800) ![0, 0] S288x12800.size inb_S288x12800_S288x12800_0_0).toLoadRect (View.loadsAt_vmem h_S288x12800))
  let v2 : Vec F S1x32x288 .f32 ← Prog.lift (.load arg3 (Rect.unit (s := S1x32x288) ![0, 0, 0] S1x32x288.size inb_S1x32x288_S1x32x288_0_0_0).toLoadRect (View.loadsAt_vmem h_S1x32x288))
  let v5 : Vec F S32x1 .f32 ← Prog.lift (.load arg4 (Rect.unit (s := S32x1) ![0, 0] S32x1.size inb_S32x1_S32x1_0_0).toLoadRect (View.loadsAt_vmem h_S32x1))
  let v11 : Vec F S1x12800 .f32 ← Prog.lift (.load arg2 (Rect.unit (s := S288x12800) (k0_off1 i 272#32) S1x12800.size (k0_off1_inb i 0)).toLoadRect (View.loadsAt_vmem h_S1x12800))
  let v15 : Vec F S1x12800 .f32 ← Prog.lift (.load arg2 (Rect.unit (s := S288x12800) (k0_off1 i 280#32) S1x12800.size (k0_off1_inb i 1)).toLoadRect (View.loadsAt_vmem h_S1x12800))
  let v31 : Vec F S32x128 .f32 ← Prog.lift (.load arg6 (Rect.unit (s := S32x288) ![0, 0] S32x128.size inb_S32x288_S32x128_0_0).toLoadRect (View.loadsAt_vmem h_S32x128))
  let v33 : Vec F S32x128 .f32 ← Prog.lift (.load arg6 (Rect.unit (s := S32x288) ![0, 128] S32x128.size inb_S32x288_S32x128_0_128).toLoadRect (View.loadsAt_vmem h_S32x128))
  let v35 : Vec F S32x32 .f32 ← Prog.lift (.load arg6 (Rect.unit (s := S32x288) ![0, 256] S32x32.size inb_S32x288_S32x32_0_256).toLoadRect (View.loadsAt_vmem h_S32x32))
  let v39 : Vec F S32x7 .f32 ← Prog.lift (.load arg7 (Rect.unit (s := S32x7) ![0, 0] S32x7.size inb_S32x7_S32x7_0_0).toLoadRect (View.loadsAt_vmem h_S32x7))
  let v45 : Vec F S32x12800 .f32 ← Prog.lift (.load arg5 (Rect.unit (s := S32x12800) ![0, 0] S32x12800.size inb_S32x12800_S32x12800_0_0).toLoadRect (View.loadsAt_vmem h_S32x12800))
  let _v49 : Vec F S1x12800x128 .f32 ← Prog.lift (.load arg8 (Rect.unit (s := S1x12800x128) ![0, 0, 0] S1x12800x128.size inb_S1x12800x128_S1x12800x128_0_0_0).toLoadRect (View.loadsAt_vmem h_S1x12800x128))
  Prog.lift (.store arg8 (Rect.unit (s := S1x12800x128) ![0, 0, 0] S1x12800x128.size inb_S1x12800x128_S1x12800x128_0_0_0)
    (f v0 v2 v5 v11 v15 v31 v33 v35 v39 v45) Finset.univ (View.stores_vmem_bits_univ h_S1x12800x128 rfl) (.inl rfl))
  pure ⟨⟩

set_option maxRecDepth 65536 in
/-- The printed body has that shape. -/
theorem body_eq (i : grid0.Coords) (arg2 : Memref sig .tc .vmem S288x12800 .f32) (harg2 : arg2.IsWhole)
    (arg3 : Memref sig .tc .vmem S1x32x288 .f32) (harg3 : arg3.IsWhole) (arg4 : Memref sig .tc .vmem S32x1 .f32) (harg4 : arg4.IsWhole)
    (arg5 : Memref sig .tc .vmem S32x12800 .f32) (harg5 : arg5.IsWhole) (arg6 : Memref sig .tc .vmem S32x288 .f32) (harg6 : arg6.IsWhole)
    (arg7 : Memref sig .tc .vmem S32x7 .f32) (harg7 : arg7.IsWhole) (arg8 : Memref sig .tc .vmem S1x12800x128 .f32) (harg8 : arg8.IsWhole) :
    cc0__stid_kernel (F := F) i arg2 harg2 arg3 harg3 arg4 harg4 arg5 harg5 arg6 harg6 arg7 harg7 arg8 harg8
      = body Cert.Stid.stored i arg2 arg3 arg4 arg5 arg6 arg7 arg8 := rfl

/-- A buffer held at some contents of its memory is held at whatever those read as. -/
theorem holds_some (c : Dev nD) {sp : Space} {s : Shape} {e : EltTy} (M : Memref sig .tc sp s e) (f : M.view.ty.Contents (Elt F)) :
    iprop((M.view.loc (c : Thread nD τ)) ↦[M.view.set]{fullShare} f)
      ⊢ (iprop(∃ X, ∃ f, ⌜M.view.read (Elt F) f = X⌝ ∗ ((M.view.loc (c : Thread nD τ)) ↦[M.view.set]{fullShare} f)) : sProp 𝕄) := by
  iintro H
  iexists (M.view.read (Elt F) f), f
  isplitr
  · ipureintro; rfl
  iexact H

/-- The body, run from its seven buffers held whole at anything. -/
theorem body_triple (c : Dev nD) (E : Set ℕ) (i : grid0.Coords) (arg2 : Memref sig .tc .vmem S288x12800 .f32) (harg2 : arg2.IsWhole)
    (arg3 : Memref sig .tc .vmem S1x32x288 .f32) (harg3 : arg3.IsWhole) (arg4 : Memref sig .tc .vmem S32x1 .f32) (harg4 : arg4.IsWhole)
    (arg5 : Memref sig .tc .vmem S32x12800 .f32) (harg5 : arg5.IsWhole) (arg6 : Memref sig .tc .vmem S32x288 .f32) (harg6 : arg6.IsWhole)
    (arg7 : Memref sig .tc .vmem S32x7 .f32) (harg7 : arg7.IsWhole) (arg8 : Memref sig .tc .vmem S1x12800x128 .f32) (harg8 : arg8.IsWhole) (K : PUnit → sProp 𝕄) :
    iprop(((∃ X, owns (c : Thread nD τ) arg2 fullShare X) ∗ (∃ X, owns (c : Thread nD τ) arg3 fullShare X)
            ∗ (∃ X, owns (c : Thread nD τ) arg4 fullShare X) ∗ (∃ X, owns (c : Thread nD τ) arg5 fullShare X)
            ∗ (∃ X, owns (c : Thread nD τ) arg6 fullShare X) ∗ (∃ X, owns (c : Thread nD τ) arg7 fullShare X)
            ∗ (∃ X, owns (c : Thread nD τ) arg8 fullShare X))
          ∗ (iprop((∃ X, owns (c : Thread nD τ) arg2 fullShare X) ∗ (∃ X, owns (c : Thread nD τ) arg3 fullShare X)
            ∗ (∃ X, owns (c : Thread nD τ) arg4 fullShare X) ∗ (∃ X, owns (c : Thread nD τ) arg5 fullShare X)
            ∗ (∃ X, owns (c : Thread nD τ) arg6 fullShare X) ∗ (∃ X, owns (c : Thread nD τ) arg7 fullShare X)
            ∗ (∃ X, owns (c : Thread nD τ) arg8 fullShare X)) -∗ K ⟨⟩))
      ⊢ wp frame (wpE (defs₀ (F := F)) Variants.none c none) E
          (cc0__stid_kernel i arg2 harg2 arg3 harg3 arg4 harg4 arg5 harg5 arg6 harg6 arg7 harg7 arg8 harg8) K := by
  rw [body_eq]
  unfold body owns
  iintro ⟨⟨⟨%X0, %f0, %hf0, H0⟩, ⟨%X1, %f1, %hf1, H1⟩, ⟨%X2, %f2, %hf2, H2⟩, ⟨%X3, %f3, %hf3, H3⟩, ⟨%X4, %f4, %hf4, H4⟩,
    ⟨%X5, %f5, %hf5, H5⟩, ⟨%X6, %f6, %hf6, H6⟩⟩, Hk⟩
  sl_exec
  sl_step
  iapply Hk
  isplitl [H0]
  · iexists X0, f0; isplitr; · ipureintro; exact hf0
    iexact H0
  isplitl [H1]
  · iexists X1, f1; isplitr; · ipureintro; exact hf1
    iexact H1
  isplitl [H2]
  · iexists X2, f2; isplitr; · ipureintro; exact hf2
    iexact H2
  isplitl [H3]
  · iexists X3, f3; isplitr; · ipureintro; exact hf3
    iexact H3
  isplitl [H4]
  · iexists X4, f4; isplitr; · ipureintro; exact hf4
    iexact H4
  isplitl [H5]
  · iexists X5, f5; isplitr; · ipureintro; exact hf5
    iexact H5
  iapply (holds_some (F := F) c arg8 _)
  iexact H6

variable (m : (ℓ : Loc nD τ sig) → Buf (Elt F) ℓ) (ρ : Dev nD → PrngReg)

/-- The proof data of the region: the arrays as the region finds them; what the body leaves in a buffer is not said. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- The body's row of the table of functions is the body at the point. -/
theorem defs_row (t : Fin cfg0.N) : (defs₀ (F := F)) .tc cfg0.body (cfg0.bodyArgs t (cfg0.slots t)) = bodyAt0 t := by
  unfold defs₀; rw [Defs.onTc_tc]

/-- The body's obligation, every buffer at anything. -/
theorem body_obligation (c : Dev nD) :
    BodyObligationLoose (dats m 0 c) (defs₀ (F := F)) Variants.none () Set.univ (fun _ => true) := fun t => by
  rw [bigSep_W0]
  simp only
  rw [defs_row, show (dats m 0 c).Φ t.succ = (dats m 0 c).Φ t.castSucc from rfl,
    show (dats m 0 c).owesAt () t.succ = (dats m 0 c).owesAt () t.castSucc from rfl]
  iintro ⟨HΦ, Ho, H⟩
  iapply (body_triple (F := F) c Set.univ (grid0.coords t) _ _ _ _ _ _ _ _ _ _ _ _ _ _ _)
  isplitl [H]
  · iexact H
  iintro H
  isplitl [HΦ]; · iexact HΦ
  isplitl [Ho]; · iexact Ho
  iexact H

/-- The buffers the host operations after the region write. -/
def tailWrites : Finset (Ref sig .tc) := {main_v20, main_v21}

/-- The tail writes nothing but those two. -/
theorem tail_writes : ∀ ops ∈ [(hostOps1 : List (HloOp τ sig (Elt F)))], ∀ op ∈ ops, ∀ b : Ref sig .tc,
    Proc.devRef .tc b ∈ op.writes → b ∈ tailWrites := by
  intro ops hops op hop b hb
  rw [List.mem_singleton] at hops
  subst hops
  simp only [hostOps1, List.mem_cons, List.not_mem_nil, _root_.or_false] at hop
  rcases hop with rfl | rfl
  · rw [StableHlo.unary_writes, Finset.mem_singleton] at hb
    rw [Proc.devRef_injective _ hb]; decide
  · rw [StableHlo.unary_writes, Finset.mem_singleton] at hb
    rw [Proc.devRef_injective _ hb]; decide

set_option backward.isDefEq.respectTransparency.types false in
/-- The run of the whole program: every argument array ends as it was launched, and every counter at zero. -/
theorem run : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  Pipeline.θ_run_frame_around_T_forget cfgs (dats m) 0 launch0 defs₀ Variants.none (fun _ => true) tailWrites m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := tail_writes)
    (hmain := hmain m Variants.none) (hA := fun _ _ => rfl) (hΦ := fun _ _ => rfl)
    (Q' := _)
    (hQ' := fun _ h => ⟨fun c =>
      ⟨((h.1 c).2 main_arg0 (by decide)).trans (V_main_arg0 m c), ((h.1 c).2 main_arg1 (by decide)).trans (V_main_arg1 m c),
       ((h.1 c).2 main_arg2 (by decide)).trans (V_main_arg2 m c), ((h.1 c).2 main_arg3 (by decide)).trans (V_main_arg3 m c),
       ((h.1 c).2 main_arg4 (by decide)).trans (V_main_arg4 m c), ((h.1 c).2 main_arg5 (by decide)).trans (V_main_arg5 m c)⟩,
      h.2⟩)

end Cert.StidFrame

end
-- ==== Proof.Lookup.lean ====
/-
  The two table lookups of the kernel body, read at one element.

  The body clamps an index word into the table's range, looks it up slice by slice and, for the time-of-day table, in three
  tables of 128 columns. Here: at column `n` of the block the looked-up embedding is the table's column that the clamped
  index word of that column names.
-/
module

public import proofs.«01_k».proof.Proof.Body
public import Idealize.ShloMosaic.Lib.Pointwise
public import Idealize.ShloMosaic.Lib.Pipeline.Value
public import Idealize.ShloMosaic.Lib.ValueIdxCore

@[expose] public section

noncomputable section

namespace Cert.Stid

open Cert.KernelIdeal Cert.KernelIdeal.Gen
open Idealize.ShloMosaic Idealize.SL.Sem

variable {F : FTy → Type} [FloatOps F]

/-- An index word clamped between 0 and `hi`. -/
def clampWord (hi w : BitVec 32) : BitVec 32 := IntOp.minsi hi (IntOp.maxsi 0#32 w)

/-- A word clamped between 0 and a `hi` that is not negative is at most `hi`. -/
theorem clampWord_le (hi w : BitVec 32) (h : hi.toNat < 2 ^ 31) : (clampWord hi w).toNat ≤ hi.toNat := by
  unfold clampWord IntOp.minsi IntOp.maxsi
  have e0 : (0#32).toInt = 0 := rfl
  have eh : hi.toInt = hi.toNat := BitVec.toInt_eq_toNat_of_lt (by omega)
  by_cases h1 : w.slt 0#32
  · rw [if_pos h1]
    split_ifs <;> simp
  · rw [if_neg h1]
    have hw : 0 ≤ w.toInt := by
      rw [BitVec.slt, decide_eq_true_eq, e0] at h1; omega
    have ew : w.toInt = w.toNat := by
      rw [BitVec.toInt_eq_toNat_cond] at hw ⊢
      have := w.isLt
      split_ifs at hw ⊢ <;> omega
    split_ifs with h2
    · exact le_rfl
    · rw [BitVec.slt, decide_eq_true_eq, eh, ew] at h2; omega

/-- The row of the time-of-day table that an index word names, once clamped. -/
def tidCol (w : BitVec 32) : Fin 288 :=
  ⟨(clampWord 287#32 w).toNat, Nat.lt_succ_of_le (clampWord_le 287#32 w (by decide))⟩

/-- The row of the day-of-week table that an index word names, once clamped. -/
def diwCol (w : BitVec 32) : Fin 7 :=
  ⟨(clampWord 6#32 w).toNat, Nat.lt_succ_of_le (clampWord_le 6#32 w (by decide))⟩

/-- A clamped word is the word of its column. -/
theorem clampWord_tid (w : BitVec 32) : clampWord 287#32 w = BitVec.ofNat 32 (tidCol w).val := by
  simp [tidCol]

theorem clampWord_diw (w : BitVec 32) : clampWord 6#32 w = BitVec.ofNat 32 (diwCol w).val := by
  simp [diwCol]

/-- A lookup at an index word that names a column below 128. -/
theorem lookup_apply (tab : FVec F S32x128 .f32) (ix : IVec S32x128 32) (e : Fin 32) (l k : Fin 128)
    (h : ix (ix2 e l) = BitVec.ofNat 32 k.val) : lookup tab ix (ix2 e l) = tab (ix2 e k) := by
  have hs : ∀ k : Fin 128, IntOp.cmpi .slt (BitVec.ofNat 32 k.val) 0#32 = 0#1 := by decide +kernel
  have hm : ∀ k : Fin 128, (BitVec.ofNat 32 k.val).toNat % 128 = k.val := by decide +kernel
  have hix : (shapeCast S32x128 (shapeCast S32x128x1
      (select (cmpi .slt ix (broadcast S32x128 0#32)) (addi ix (broadcast S32x128 128#32)) ix)
      shapeCasts_S32x128_S32x128x1) shapeCasts_S32x128x1_S32x128) (ix2 e l) = BitVec.ofNat 32 k.val := by
    refine (shapeCast_apply _ _ (ix2 e l) (ix3 e l 0) ?_).trans ((shapeCast_apply _ _ (ix3 e l 0) (ix2 e l) ?_).trans ?_)
    · rw [Shape.rowMajor_val_two, Shape.rowMajor_val_three]
      show (e.val * 128 + l.val) * 1 + 0 = e.val * 128 + l.val
      omega
    · rw [Shape.rowMajor_val_two, Shape.rowMajor_val_three]
      show e.val * 128 + l.val = (e.val * 128 + l.val) * 1 + 0
      omega
    · rw [ValueIdx.select_apply, cmpi_apply, ValueIdx.broadcast_apply, h, hs]; rfl
  unfold lookup
  rw [dynamicGather_apply, hix]
  refine congrArg tab (funext fun a => Fin.ext ?_)
  match a with
  | ⟨0, _⟩ => rfl
  | ⟨1, _⟩ => exact hm k

/-- The time-of-day embedding of a slice at an index word that names column `n` of the 288. -/
theorem tidPiece_apply (c0 c1 c2 : FVec F S32x128 .f32) (tab : Fin 32 → Fin 288 → F .f32)
    (h0 : ∀ e (k : Fin 128), c0 (ix2 e k) = tab e ⟨k.val, by omega⟩)
    (h1 : ∀ e (k : Fin 128), c1 (ix2 e k) = tab e ⟨128 + k.val, by omega⟩)
    (h2 : ∀ e (k : Fin 32), c2 (ix2 e ⟨k.val, by omega⟩) = tab e ⟨256 + k.val, by omega⟩)
    (ix : IVec S32x128 32) (e : Fin 32) (l : Fin 128) (n : Fin 288) (h : ix (ix2 e l) = BitVec.ofNat 32 n.val) :
    tidPiece c0 c1 c2 ix (ix2 e l) = tab e n := by
  have k1 : ∀ n : Fin 288, IntOp.cmpi .slt (BitVec.ofNat 32 n.val) 128#32 = if n.val < 128 then 1#1 else 0#1 := by
    decide +kernel
  have k2 : ∀ n : Fin 288, IntOp.cmpi .slt (BitVec.ofNat 32 n.val) 256#32 = if n.val < 256 then 1#1 else 0#1 := by
    decide +kernel
  have m0 : ∀ n : Fin 288, n.val < 128 →
      IntOp.minsi 127#32 (IntOp.maxsi 0#32 (BitVec.ofNat 32 n.val)) = BitVec.ofNat 32 n.val := by decide +kernel
  have m1 : ∀ n : Fin 288, ¬ n.val < 128 → n.val < 256 →
      IntOp.minsi 127#32 (IntOp.maxsi 0#32 (IntOp.subi (BitVec.ofNat 32 n.val) 128#32)) = BitVec.ofNat 32 (n.val - 128) := by
    decide +kernel
  have m2 : ∀ n : Fin 288, ¬ n.val < 256 →
      IntOp.minsi 31#32 (IntOp.maxsi 0#32 (IntOp.subi (BitVec.ofNat 32 n.val) 256#32)) = BitVec.ofNat 32 (n.val - 256) := by
    decide +kernel
  have hn := n.isLt
  unfold tidPiece
  rw [ValueIdx.select_apply, cmpi_apply, ValueIdx.broadcast_apply, h, k1]
  by_cases c : n.val < 128
  · rw [if_pos c, ValueIdx.select_one]
    refine (lookup_apply c0 _ e l ⟨n.val, c⟩ ?_).trans (h0 e _)
    unfold clampTo
    rw [minsi_apply, maxsi_apply, ValueIdx.broadcast_apply, ValueIdx.broadcast_apply, h, m0 n c]
  · rw [if_neg c, ValueIdx.select_zero, ValueIdx.select_apply, cmpi_apply, ValueIdx.broadcast_apply, h, k2]
    by_cases c' : n.val < 256
    · rw [if_pos c', ValueIdx.select_one]
      refine (lookup_apply c1 _ e l ⟨n.val - 128, by omega⟩ ?_).trans ((h1 e _).trans ?_)
      · unfold clampTo
        rw [minsi_apply, maxsi_apply, subi_apply, ValueIdx.broadcast_apply, ValueIdx.broadcast_apply, ValueIdx.broadcast_apply, h, m1 n c c']
      · exact congrArg (tab e) (Fin.ext (by show 128 + (n.val - 128) = n.val; omega))
    · rw [if_neg c', ValueIdx.select_zero]
      refine (lookup_apply c2 _ e l ⟨n.val - 256, by omega⟩ ?_).trans ((h2 e ⟨n.val - 256, by omega⟩).trans ?_)
      · unfold clampTo
        rw [minsi_apply, maxsi_apply, subi_apply, ValueIdx.broadcast_apply, ValueIdx.broadcast_apply, ValueIdx.broadcast_apply, h, m2 n c']
      · exact congrArg (tab e) (Fin.ext (by show 256 + (n.val - 256) = n.val; omega))

/-- Slice `j` of a row of indices at lane `l`: the row's column `128 j + l`. -/
theorem sliceOf_apply (v : IVec S1x12800 32) (j : Fin 100) (e : Fin 32) (l : Fin 128) :
    sliceOf v j (ix2 e l) = v (ix2 0 ⟨128 * j.val + l.val, by omega⟩) := by
  unfold sliceOf
  refine (broadcastTo_apply _ _ _ (ix2 0 l) fun a => ?_).trans ((shapeCast_apply _ _ _ (ix2 0 l) rfl).trans
    (extractStridedSlice_apply _ _ _ _ _ fun a => ?_))
  · match a with
    | ⟨0, _⟩ => rfl
    | ⟨1, _⟩ => rfl
  · match a with
    | ⟨0, _⟩ => rfl
    | ⟨1, _⟩ => rfl

/-- Slices side by side, read at column `n`: slice `n / 128` at lane `n % 128`. -/
theorem row_apply (f : Fin 100 → FVec F S32x128 .f32) (e : Fin 32) (n : Fin 12800) :
    row f (ix2 e n) = f ⟨n.val / 128, by omega⟩ (ix2 e ⟨n.val % 128, by omega⟩) := by
  unfold row
  refine _root_.Idealize.ShloMosaic.concatenate_ofFn_apply (t := S32x12800) (s₁ := S32x128) 1 f _ rfl 128 rfl (ix2 e n) _ rfl _ rfl fun b hb => ?_
  match b with
  | ⟨0, _⟩ => rfl
  | ⟨1, _⟩ => exact absurd rfl hb

/-- The time-of-day embeddings of a block at column `n`, where the index word names column `k` of the table. -/
theorem tidRow_apply (v : IVec S1x12800 32) (c0 c1 c2 : FVec F S32x128 .f32) (tab : Fin 32 → Fin 288 → F .f32)
    (h0 : ∀ e (k : Fin 128), c0 (ix2 e k) = tab e ⟨k.val, by omega⟩)
    (h1 : ∀ e (k : Fin 128), c1 (ix2 e k) = tab e ⟨128 + k.val, by omega⟩)
    (h2 : ∀ e (k : Fin 32), c2 (ix2 e ⟨k.val, by omega⟩) = tab e ⟨256 + k.val, by omega⟩)
    (e : Fin 32) (n : Fin 12800) (k : Fin 288) (h : v (ix2 0 n) = BitVec.ofNat 32 k.val) :
    tidRow v c0 c1 c2 (ix2 e n) = tab e k := by
  unfold tidRow
  rw [row_apply]
  refine tidPiece_apply c0 c1 c2 tab h0 h1 h2 _ e _ k ?_
  rw [sliceOf_apply, ← h]
  exact congrArg (fun n => v (ix2 0 n)) (Fin.ext (by show 128 * (n.val / 128) + n.val % 128 = n.val; omega))

/-- The day-of-week embeddings of a block at column `n`, where the index word names column `k` of the padded table. -/
theorem diwRow_apply (v : IVec S1x12800 32) (dw : FVec F S32x128 .f32) (e : Fin 32) (n : Fin 12800) (k : Fin 128)
    (h : v (ix2 0 n) = BitVec.ofNat 32 k.val) : diwRow v dw (ix2 e n) = dw (ix2 e k) := by
  unfold diwRow
  rw [row_apply]
  refine lookup_apply dw _ e _ k ?_
  rw [sliceOf_apply, ← h]
  exact congrArg (fun n => v (ix2 0 n)) (Fin.ext (by show 128 * (n.val / 128) + n.val % 128 = n.val; omega))

end Cert.Stid

end
-- ==== Proof.Cell.lean ====
/-
  The block the kernel body stores, read at one element, with the floats taken as extended reals.

  Row `n` of the stored block holds 128 numbers: the projected series, the node embedding, the time-of-day embedding and
  the day-of-week embedding, 32 each. They depend on column `n` of the series block and of the node block alone, which is
  why what lies in the columns of a staging buffer beyond the array's end does not matter.
-/
module

public import proofs.«01_k».proof.Proof.Lookup
public import proofs.«01_k».proof.Proof.Triple
public import Idealize.ShloMosaic.Lib.MatmulPlain

@[expose] public section

noncomputable section

namespace Cert.Stid

open Cert.KernelIdeal Cert.KernelIdeal.Gen
open Idealize.ShloMosaic Idealize.SL.Sem

/-- Four groups of 32 numbers, one after the other. -/
def stack4 {α : Type} (f0 f1 f2 f3 : Fin 32 → α) (q : Fin 128) : α :=
  if h0 : q.val < 32 then f0 ⟨q.val, h0⟩
  else if h1 : q.val < 64 then f1 ⟨q.val - 32, by omega⟩
  else if h2 : q.val < 96 then f2 ⟨q.val - 64, by omega⟩
  else f3 ⟨q.val - 96, by omega⟩

/-- The index word of a time of day in `[0, 1)`. -/
def tidWord (x : EReal) : BitVec 32 := Ideal.fptosi 32 (x * Ideal.ofBits .f32 0x43900000#32)

/-- The index word of a day of the week in `[0, 1)`. -/
def diwWord (x : EReal) : BitVec 32 := Ideal.fptosi 32 (x * Ideal.ofBits .f32 0x40E00000#32)

/-- One row of the result: `p` the projected series, `nd` the node embedding, `xt` and `xd` the time of day and the day of
    the week, `td` and `dw` the two tables. -/
def cell (p nd : Fin 32 → EReal) (xt xd : EReal) (td : Fin 32 → Fin 288 → EReal) (dw : Fin 32 → Fin 7 → EReal) : Fin 128 → EReal :=
  stack4 p nd (fun e => td e (tidCol (tidWord xt))) (fun e => dw e (diwCol (diwWord xd)))

/-- A block of a buffer's contents, read at an element: the contents at the block's offset plus the element's place in it. -/
theorem part_apply {s : Shape} (off size : Fin s.rank → ℕ) (h : ∀ a, off a + size a ≤ s.size a)
    (X : s.Idx → EReal) (x : (Rect.unit (s := s) off size h).toLoadRect.shape.Idx) (k : s.Idx)
    (hk : ∀ a, (k a).val = off a + (x a).val) : part (F := Ideal) (e := .f32) off size h X x = X k :=
  congrArg X (funext fun a => Fin.ext (by rw [hk a]; show off a + 1 * (x a).val = _; omega))

/-- The library has two spellings of a pair of coordinates. -/
theorem ix2_eq {a b : ℕ} (x : Fin a) (y : Fin b) : ValueIdx.ix2 x y = ix2 x y := by
  funext c
  match c with
  | ⟨0, _⟩ => rfl
  | ⟨1, _⟩ => rfl

/-- The projected series: a weighted sum over the 288 rows of the series block, plus the bias. -/
theorem pay3_apply (v0 : Vec Ideal S288x12800 .f32) (v2 : Vec Ideal S1x32x288 .f32) (v5 : Vec Ideal S32x1 .f32) (e : Fin 32) (n : Fin 12800) :
    k0_pay3 v0 v2 v5 (ix2 e n) = (∑ r : Fin 288, v2 (ix3 0 e r) * v0 (ix2 r n)) + v5 (ix2 e 0) := by
  have hm : ∀ (L : FVec Ideal S32x288 .f32) (R : FVec Ideal S288x12800 .f32),
      matmul dot_S32x288_S288x12800_S32x12800_1_0_0_1_n_n none L R (constant S32x12800 .f32 0x00000000#32) (ix2 e n)
        = ∑ r : Fin 288, L (ix2 e r) * R (ix2 r n) := fun L R => by
    refine ((congrArg _ (ix2_eq e n).symm).trans
      (Ideal.matmul_plain_apply (M := 32) (K := 288) (N := 12800) none L R _ e n)).trans ?_
    show Ideal.ofBits .f32 0x00000000#32 + _ = _
    rw [Ideal.ofBits_zero_f32, zero_add]
    exact Finset.sum_congr rfl fun r _ => by rw [ix2_eq, ix2_eq]
  unfold k0_pay3
  refine (congrArg₂ (· + ·) (hm _ _) rfl).trans ?_
  refine congrArg₂ (· + ·) (Finset.sum_congr rfl fun r _ => congrArg₂ (· * ·) ?_ ?_) ?_
  · refine shapeCast_apply _ _ _ (ix3 0 e r) ?_
    rw [Shape.rowMajor_val_two, Shape.rowMajor_val_three]
    show (0 * 32 + e.val) * 288 + r.val = e.val * 288 + r.val
    omega
  · exact shapeCast_apply _ _ _ (ix2 r n) rfl
  · refine (broadcastTo_apply _ _ _ (ix2 e 0) fun a => ?_).trans (shapeCast_apply _ _ _ (ix2 e 0) rfl)
    match a with
    | ⟨0, _⟩ => rfl
    | ⟨1, _⟩ => rfl

/-- The index word of a column, clamped. -/
theorem pay4_apply (v : Vec Ideal S1x12800 .f32) (n : Fin 12800) :
    k0_pay4 v (ix2 0 n) = clampWord 287#32 (tidWord (v (ix2 0 n))) := by
  have h : shapeCast S1x12800 v shapeCasts_S1x12800_S1x12800 (ix2 0 n) = v (ix2 0 n) := shapeCast_apply _ _ _ _ rfl
  unfold k0_pay4
  rw [minsi_apply, maxsi_apply, fptosi_apply]
  exact congrArg (fun x => clampWord 287#32 (tidWord x)) h

theorem pay5_apply (v : Vec Ideal S1x12800 .f32) (n : Fin 12800) :
    k0_pay5 v (ix2 0 n) = clampWord 6#32 (diwWord (v (ix2 0 n))) := by
  have h : shapeCast S1x12800 v shapeCasts_S1x12800_S1x12800 (ix2 0 n) = v (ix2 0 n) := shapeCast_apply _ _ _ _ rfl
  unfold k0_pay5
  rw [minsi_apply, maxsi_apply, fptosi_apply]
  exact congrArg (fun x => clampWord 6#32 (diwWord x)) h

/-- The last of the three time-of-day tables has 32 columns of its own. -/
theorem pay8_apply (v : Vec Ideal S32x32 .f32) (e k : Fin 32) : k0_pay8 v (ix2 e ⟨k.val, by omega⟩) = v (ix2 e k) := by
  unfold k0_pay8
  refine (concatenate_apply_piece (t := S32x128) 1 _ _ _ 0 (by simp) S32x32 _ rfl rfl 0 rfl (ix2 e k) (fun b hb => ?_) ?_).trans ?_
  · match b with
    | ⟨0, _⟩ => rfl
    | ⟨1, _⟩ => exact absurd rfl hb
  · show 0 + k.val = k.val; omega
  · exact shapeCast_apply _ _ _ (ix2 e k) rfl

/-- The day-of-week table has 7 columns of its own. -/
theorem pay9_apply (v : Vec Ideal S32x7 .f32) (e : Fin 32) (k : Fin 7) : k0_pay9 v (ix2 e ⟨k.val, by omega⟩) = v (ix2 e k) := by
  unfold k0_pay9
  refine (concatenate_apply_piece (t := S32x128) 1 _ _ _ 0 (by simp) S32x7 _ rfl rfl 0 rfl (ix2 e k) (fun b hb => ?_) ?_).trans ?_
  · match b with
    | ⟨0, _⟩ => rfl
    | ⟨1, _⟩ => exact absurd rfl hb
  · show 0 + k.val = k.val; omega
  · exact shapeCast_apply _ _ _ (ix2 e k) rfl

/-- The four groups laid below one another and transposed. -/
theorem pay2_apply {F : FTy → Type} [FloatOps F] (v8 v6043 v6044 : FVec F S32x12800 .f32) (v6045 : Vec F S32x12800 .f32)
    (n : Fin 12800) (q : Fin 128) :
    k0_pay2 v8 v6043 v6044 v6045 (ix3 0 n q)
      = stack4 (fun e => v8 (ix2 e n)) (fun e => v6045 (ix2 e n)) (fun e => v6043 (ix2 e n)) (fun e => v6044 (ix2 e n)) q := by
  unfold k0_pay2
  refine (shapeCast_apply _ _ _ (ix2 n q) ?_).trans ((transpose_apply _ _ _ _ (ix2 q n) fun b => ?_).trans ?_)
  · rw [Shape.rowMajor_val_two, Shape.rowMajor_val_three]
    show n.val * 128 + q.val = (0 * 12800 + n.val) * 128 + q.val
    omega
  · match b with
    | ⟨0, _⟩ => rfl
    | ⟨1, _⟩ => rfl
  · unfold stack4
    have off : ∀ (e : Fin 32) (b : Fin S32x12800.rank), b.cast (rfl : S32x12800.rank = S128x12800.rank) ≠ (0 : Fin 2) →
        ((ix2 e n : S32x12800.Idx) b).val = ((ix2 q n : S128x12800.Idx) (b.cast rfl)).val := fun e b hb => by
      match b with
      | ⟨0, _⟩ => exact absurd rfl hb
      | ⟨1, _⟩ => rfl
    split_ifs with h0 h1 h2
    · exact concatenate_apply_piece (t := S128x12800) 0 _ _ _ 0 (by simp) S32x12800 _ rfl rfl 0 rfl (ix2 ⟨q.val, h0⟩ n)
        (off _) (by show 0 + q.val = q.val; omega)
    · refine (concatenate_apply_piece (t := S128x12800) 0 _ _ _ 1 (by simp) S32x12800 _ rfl rfl 32 rfl (ix2 ⟨q.val - 32, by omega⟩ n)
        (off _) (by show 32 + (q.val - 32) = q.val; omega)).trans (shapeCast_apply _ _ _ _ rfl)
    · exact concatenate_apply_piece (t := S128x12800) 0 _ _ _ 2 (by simp) S32x12800 _ rfl rfl 64 rfl (ix2 ⟨q.val - 64, by omega⟩ n)
        (off _) (by show 64 + (q.val - 64) = q.val; omega)
    · exact concatenate_apply_piece (t := S128x12800) 0 _ _ _ 3 (by simp) S32x12800 _ rfl rfl 96 rfl (ix2 ⟨q.val - 96, by omega⟩ n)
        (off _) (by show 96 + (q.val - 96) = q.val; omega)

/-- The row of the series block the time of day of batch `i 1` is read from. -/
def rowT (i : grid0.Coords) : Fin 288 := ⟨272 + (i 1).val, by have := (i 1).isLt; show 272 + (i 1).val < 288; have : (i 1).val < 8 := this; omega⟩

/-- The row of the series block the day of the week of batch `i 1` is read from. -/
def rowD (i : grid0.Coords) : Fin 288 := ⟨280 + (i 1).val, by have := (i 1).isLt; show 280 + (i 1).val < 288; have : (i 1).val < 8 := this; omega⟩

/-- The offsets of the two loads of one row. -/
theorem off_row (i : grid0.Coords) : k0_off1 i 272#32 = ![272 + (i 1).val, 0] ∧ k0_off1 i 280#32 = ![280 + (i 1).val, 0] := by
  have h : ∀ k : Fin 8, (Scalar.indexCast (Scalar.addi 272#32 (BitVec.ofNat 32 k.val)) : Index).toNat = 272 + k.val
      ∧ (Scalar.indexCast (Scalar.addi 280#32 (BitVec.ofNat 32 k.val)) : Index).toNat = 280 + k.val := by decide +kernel
  exact ⟨congrArg (fun x => ![x, 0]) (h (i 1)).1, congrArg (fun x => ![x, 0]) (h (i 1)).2⟩

/-- **The stored block at row `n`, column `q`.** -/
theorem outBlk_apply (i : grid0.Coords) (X0 : S288x12800.Idx → EReal) (X1 : S1x32x288.Idx → EReal) (X2 : S32x1.Idx → EReal)
    (X3 : S32x12800.Idx → EReal) (X4 : S32x288.Idx → EReal) (X5 : S32x7.Idx → EReal) (n : Fin 12800) (q : Fin 128) :
    outBlk (F := Ideal) i X0 X1 X2 X3 X4 X5 (ix3 0 n q)
      = cell (fun e => (∑ r : Fin 288, X1 (ix3 0 e r) * X0 (ix2 r n)) + X2 (ix2 e 0)) (fun e => X3 (ix2 e n))
          (X0 (ix2 (rowT i) n)) (X0 (ix2 (rowD i) n)) (fun e k => X4 (ix2 e k)) (fun e k => X5 (ix2 e k)) q := by
  unfold outBlk stored cell
  rw [pay2_apply]
  congr 1
  · funext e
    rw [pay3_apply]
    refine congrArg₂ (· + ·) (Finset.sum_congr rfl fun r _ => congrArg₂ (· * ·) ?_ ?_) ?_
    · exact part_apply _ _ _ X1 _ _ fun a => by match a with | ⟨0, _⟩ => rfl | ⟨1, _⟩ => exact (Nat.zero_add _).symm | ⟨2, _⟩ => exact (Nat.zero_add _).symm
    · exact part_apply _ _ _ X0 _ _ fun a => by match a with | ⟨0, _⟩ => exact (Nat.zero_add _).symm | ⟨1, _⟩ => exact (Nat.zero_add _).symm
    · exact part_apply _ _ _ X2 _ _ fun a => by match a with | ⟨0, _⟩ => exact (Nat.zero_add _).symm | ⟨1, _⟩ => rfl
  · funext e
    exact part_apply _ _ _ X3 _ _ fun a => by match a with | ⟨0, _⟩ => exact (Nat.zero_add _).symm | ⟨1, _⟩ => exact (Nat.zero_add _).symm
  · funext e
    refine tidRow_apply (F := Ideal) _ _ _ _ (fun e k => X4 (ix2 e k)) (fun e k => ?_) (fun e k => ?_) (fun e k => ?_) e n _ ?_
    · exact (shapeCast_apply _ _ _ (ix2 e k) rfl).trans (part_apply _ _ _ X4 _ _ fun a => by
        match a with | ⟨0, _⟩ => exact (Nat.zero_add _).symm | ⟨1, _⟩ => exact (Nat.zero_add _).symm)
    · exact (shapeCast_apply _ _ _ (ix2 e k) rfl).trans (part_apply _ _ _ X4 _ _ fun a => by
        match a with | ⟨0, _⟩ => exact (Nat.zero_add _).symm | ⟨1, _⟩ => rfl)
    · exact (pay8_apply _ e k).trans (part_apply _ _ _ X4 _ _ fun a => by
        match a with | ⟨0, _⟩ => exact (Nat.zero_add _).symm | ⟨1, _⟩ => rfl)
    · rw [pay4_apply, clampWord_tid]
      refine congrArg (fun x => BitVec.ofNat 32 (tidCol (tidWord x)).val) (part_apply _ _ _ X0 _ _ fun a => ?_)
      refine Eq.trans ?_ (congrArg (· + _) (congrFun (off_row i).1 a).symm)
      match a with
      | ⟨0, _⟩ => rfl
      | ⟨1, _⟩ => exact (Nat.zero_add _).symm
  · funext e
    refine (diwRow_apply _ _ e n ⟨(diwCol (diwWord (X0 (ix2 (rowD i) n)))).val, by omega⟩ ?_).trans ((pay9_apply _ e _).trans
      (part_apply _ _ _ X5 _ _ fun a => by
        match a with | ⟨0, _⟩ => exact (Nat.zero_add _).symm | ⟨1, _⟩ => exact (Nat.zero_add _).symm))
    rw [pay5_apply, clampWord_diw]
    refine congrArg (fun x => BitVec.ofNat 32 (diwCol (diwWord x)).val) (part_apply _ _ _ X0 _ _ fun a => ?_)
    refine Eq.trans ?_ (congrArg (· + _) (congrFun (off_row i).2 a).symm)
    match a with
    | ⟨0, _⟩ => rfl
    | ⟨1, _⟩ => exact (Nat.zero_add _).symm

end Cert.Stid

end
-- ==== Proof.Blocks.lean ====
/-
  The blocks the kernel works on, at coordinates of the arrays they come from.

  The grid has 4 times 8 points: the first coordinate picks a stretch of 12800 nodes, the second a batch entry. The last
  stretch reaches beyond the 50000 nodes, so only its first 11600 columns hold anything known. `whole` is the array the
  blocks of the result are blocks of, and `block_eq` says the body leaves such a block, on the rows inside the array.
-/
module

public import proofs.«01_k».proof.Proof.Cell
public import Idealize.ShloMosaic.Lib.Pipeline.ValueKit.Geometry
public import Idealize.ShloMosaic.Lib.Pipeline.FrameSuffix

@[expose] public section

noncomputable section

namespace Cert.Stid

open Cert.KernelIdeal Cert.KernelIdeal.Gen
open Idealize.ShloMosaic Idealize.ShloMosaic.TcCoe
open Idealize.SL Idealize.SL.RA Idealize.SL.Sem
open Idealize.ShloMosaic.Pipeline (Dat Cfg Window)

/-- The result array of the region, from the six arrays it reads: entry `(b, n, q)`. -/
def whole (xf : S288x50000.Idx → EReal) (wb : S8x32x288.Idx → EReal) (b2 : S32x1.Idx → EReal) (nd : S32x50000.Idx → EReal)
    (td : S32x288.Idx → EReal) (dw : S32x7.Idx → EReal) (b : Fin 8) (n : Fin 50000) (q : Fin 128) : EReal :=
  cell (fun e => (∑ r : Fin 288, wb (ix3 b e r) * xf (ix2 r n)) + b2 (ix2 e 0)) (fun e => nd (ix2 e n))
    (xf (ix2 ⟨272 + b.val, by omega⟩ n)) (xf (ix2 ⟨280 + b.val, by omega⟩ n)) (fun e k => td (ix2 e k)) (fun e k => dw (ix2 e k)) q

/-! ## Where the blocks lie -/

theorem index_0 : ∀ t : Fin grid0.N, win0_0.index t = ![0, (grid0.coords t 0).val] := by decide +kernel
theorem index_1 : ∀ t : Fin grid0.N, win0_1.index t = ![(grid0.coords t 1).val, 0, 0] := by decide +kernel
theorem index_2 : ∀ t : Fin grid0.N, win0_2.index t = ![0, 0] := by decide +kernel
theorem index_3 : ∀ t : Fin grid0.N, win0_3.index t = ![0, (grid0.coords t 0).val] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![(grid0.coords t 1).val, (grid0.coords t 0).val, 0] := by decide +kernel

/-- The columns of the series and node blocks inside their arrays are the rows of the result block inside its array. -/
theorem sizes : ∀ t : Fin grid0.N, win0_0.xsize (grid0.coords t) 0 = 288
    ∧ win0_0.xsize (grid0.coords t) 1 = win0_6.xsize (grid0.coords t) 1
    ∧ win0_3.xsize (grid0.coords t) 0 = 32 ∧ win0_3.xsize (grid0.coords t) 1 = win0_6.xsize (grid0.coords t) 1
    ∧ (grid0.coords t 0).val * 12800 + win0_6.xsize (grid0.coords t) 1 ≤ 50000
    ∧ win0_6.xsize (grid0.coords t) 0 = 1 ∧ win0_6.xsize (grid0.coords t) 2 = 128 := by decide +kernel

variable (m : (ℓ : Loc nD τ sig) → Buf (Elt Ideal) ℓ)

/-- The series block, at a column inside the array. -/
theorem series_at (c : Dev nD) (t : Fin cfg0.N) (d : S288x12800.Idx → EReal) (r : Fin 288) (n : Fin 12800)
    (h : n.val < win0_6.xsize (grid0.coords t) 1) (N : Fin 50000) (hN : N.val = (grid0.coords t 0).val * 12800 + n.val) :
    win0_0.fill (grid0.coords t) d (iblk m c 0 t) (ix2 r n) = V m c main_v1 (ix2 r N) := by
  obtain ⟨s0, s1, -⟩ := sizes t
  let j : (win0_0.xblock (grid0.coords t)).Idx := fun a => match a with
    | ⟨0, _⟩ => ⟨r.val, lt_of_lt_of_eq r.isLt s0.symm⟩
    | ⟨1, _⟩ => ⟨n.val, lt_of_lt_of_eq h s1.symm⟩
  have hj : ix2 r n = win0_0.xinj (grid0.coords t) j := by
    funext a; match a with | ⟨0, _⟩ => rfl | ⟨1, _⟩ => rfl
  rw [hj]
  refine (win0_0.fill_xinj _ _ _ j).trans (congrArg (V m c main_v1) ?_)
  funext a; apply Fin.ext
  match a with
  | ⟨0, _⟩ =>
    show win0_0.index t 0 * 288 + 1 * r.val = r.val
    rw [index_0 t]; simp
  | ⟨1, _⟩ =>
    show win0_0.index t 1 * 12800 + 1 * n.val = N.val
    rw [index_0 t, hN]; simp

/-- The node block, at a column inside the array. -/
theorem node_at (c : Dev nD) (t : Fin cfg0.N) (d : S32x12800.Idx → EReal) (r : Fin 32) (n : Fin 12800)
    (h : n.val < win0_6.xsize (grid0.coords t) 1) (N : Fin 50000) (hN : N.val = (grid0.coords t 0).val * 12800 + n.val) :
    win0_3.fill (grid0.coords t) d (iblk m c 3 t) (ix2 r n) = V m c main_v2 (ix2 r N) := by
  obtain ⟨-, -, s0, s1, -⟩ := sizes t
  let j : (win0_3.xblock (grid0.coords t)).Idx := fun a => match a with
    | ⟨0, _⟩ => ⟨r.val, lt_of_lt_of_eq r.isLt s0.symm⟩
    | ⟨1, _⟩ => ⟨n.val, lt_of_lt_of_eq h s1.symm⟩
  have hj : ix2 r n = win0_3.xinj (grid0.coords t) j := by
    funext a; match a with | ⟨0, _⟩ => rfl | ⟨1, _⟩ => rfl
  rw [hj]
  refine (win0_3.fill_xinj _ _ _ j).trans (congrArg (V m c main_v2) ?_)
  funext a; apply Fin.ext
  match a with
  | ⟨0, _⟩ =>
    show win0_3.index t 0 * 32 + 1 * r.val = r.val
    rw [index_3 t]; simp
  | ⟨1, _⟩ =>
    show win0_3.index t 1 * 12800 + 1 * n.val = N.val
    rw [index_3 t, hN]; simp

/-- The weights of the point's batch entry. -/
theorem weight_at (c : Dev nD) (t : Fin cfg0.N) (e : Fin 32) (r : Fin 288) (b : Fin 8) (hb : b.val = (grid0.coords t 1).val) :
    iblk m c 1 t (ix3 0 e r) = V m c main_v18 (ix3 b e r) := by
  refine congrArg (V m c main_v18) ?_
  funext a; apply Fin.ext
  match a with
  | ⟨0, _⟩ =>
    show win0_1.index t 0 * 1 + 1 * 0 = b.val
    rw [index_1 t, hb]; simp
  | ⟨1, _⟩ =>
    show win0_1.index t 1 * 32 + 1 * e.val = e.val
    rw [index_1 t]; simp
  | ⟨2, _⟩ =>
    show win0_1.index t 2 * 288 + 1 * r.val = r.val
    rw [index_1 t]; simp

/-- The bias column, the same at every point. -/
theorem bias_at (c : Dev nD) (t : Fin cfg0.N) (e : Fin 32) : iblk m c 2 t (ix2 e 0) = V m c main_v5 (ix2 e 0) := by
  refine congrArg (V m c main_v5) ?_
  funext a; apply Fin.ext
  match a with
  | ⟨0, _⟩ =>
    show win0_2.index t 0 * 32 + 1 * e.val = e.val
    rw [index_2 t]; simp
  | ⟨1, _⟩ =>
    show win0_2.index t 1 * 1 + 1 * 0 = 0
    rw [index_2 t]; simp

/-- The time-of-day table, the same at every point. -/
theorem tid_at (c : Dev nD) (t : Fin cfg0.N) (e : Fin 32) (k : Fin 288) : iblk m c 4 t (ix2 e k) = V m c main_v3 (ix2 e k) := by
  refine congrArg (V m c main_v3) ?_
  funext a; apply Fin.ext
  match a with
  | ⟨0, _⟩ =>
    show win0_4.index t 0 * 32 + 1 * e.val = e.val
    rw [index_4 t]; simp
  | ⟨1, _⟩ =>
    show win0_4.index t 1 * 288 + 1 * k.val = k.val
    rw [index_4 t]; simp

/-- The day-of-week table, the same at every point. -/
theorem diw_at (c : Dev nD) (t : Fin cfg0.N) (e : Fin 32) (k : Fin 7) : iblk m c 5 t (ix2 e k) = V m c main_v4 (ix2 e k) := by
  refine congrArg (V m c main_v4) ?_
  funext a; apply Fin.ext
  match a with
  | ⟨0, _⟩ =>
    show win0_5.index t 0 * 32 + 1 * e.val = e.val
    rw [index_5 t]; simp
  | ⟨1, _⟩ =>
    show win0_5.index t 1 * 7 + 1 * k.val = k.val
    rw [index_5 t]; simp

/-! ## The result -/

/-- The region's result array, from the memory the region is entered with. -/
def goal (c : Dev nD) : S8x50000x128.Idx → EReal := fun i =>
  whole (V m c main_v1) (V m c main_v18) (V m c main_v5) (V m c main_v2) (V m c main_v3) (V m c main_v4) (i 0) (i 1) (i 2)

/-- Its block at a point: the part of the result block inside the array. -/
def goalBlk (c : Dev nD) (t : Fin cfg0.N) : (win0_6.xblock (grid0.coords t)).Idx → Elt Ideal .f32 :=
  fun j => goal m c ((win0_6.blk t).view.emb j)

/-- Whatever lies in the columns outside the arrays, the body leaves the block of the result array. -/
theorem block_eq (c : Dev nD) (t : Fin cfg0.N) (d0 : S288x12800.Idx → EReal) (d3 : S32x12800.Idx → EReal) :
    win0_6.cut (grid0.coords t) (outBlk (F := Ideal) (grid0.coords t) (win0_0.fill (grid0.coords t) d0 (iblk m c 0 t)) (iblk m c 1 t) (iblk m c 2 t)
      (win0_3.fill (grid0.coords t) d3 (iblk m c 3 t)) (iblk m c 4 t) (iblk m c 5 t)) = goalBlk m c t := by
  obtain ⟨-, -, -, -, s5, s6, s7⟩ := sizes t
  funext j
  have h0 : (j 0).val < 1 := s6 ▸ (j 0).isLt
  have h1 : (j 1).val < win0_6.xsize (grid0.coords t) 1 := (j 1).isLt
  have h2 : (j 2).val < 128 := s7 ▸ (j 2).isLt
  have h12 : (j 1).val < 12800 := lt_of_lt_of_le h1 (win0_6.xsize_le (grid0.coords t) 1)
  have hb : (grid0.coords t 1).val < 8 := (grid0.coords t 1).isLt
  let n : Fin 12800 := ⟨(j 1).val, h12⟩
  let q : Fin 128 := ⟨(j 2).val, h2⟩
  let b : Fin 8 := ⟨(grid0.coords t 1).val, hb⟩
  let N : Fin 50000 := ⟨(grid0.coords t 0).val * 12800 + (j 1).val, by omega⟩
  have hj : win0_6.xinj (grid0.coords t) j = ix3 0 n q := by
    funext a
    match a with
    | ⟨0, _⟩ => exact Fin.ext (by show (j 0).val = 0; omega)
    | ⟨1, _⟩ => rfl
    | ⟨2, _⟩ => rfl
  have he : (win0_6.blk t).view.emb j = ix3 b N q := by
    funext a; apply Fin.ext
    match a with
    | ⟨0, _⟩ =>
      show win0_6.index t 0 * 1 + 1 * (j 0).val = _
      rw [index_6 t]; show (grid0.coords t 1).val * 1 + 1 * (j 0).val = (grid0.coords t 1).val; omega
    | ⟨1, _⟩ =>
      show win0_6.index t 1 * 12800 + 1 * (j 1).val = _
      rw [index_6 t]; show (grid0.coords t 0).val * 12800 + 1 * (j 1).val = (grid0.coords t 0).val * 12800 + (j 1).val; omega
    | ⟨2, _⟩ =>
      show win0_6.index t 2 * 128 + 1 * (j 2).val = _
      rw [index_6 t]; show 0 * 128 + 1 * (j 2).val = (j 2).val; omega
  have e0 := fun r => series_at m c t d0 r n h1 N rfl
  have e3 := fun r => node_at m c t d3 r n h1 N rfl
  have e1 := fun e r => weight_at m c t e r b rfl
  show outBlk (F := Ideal) _ _ _ _ _ _ _ (win0_6.xinj (grid0.coords t) j) = goal m c ((win0_6.blk t).view.emb j)
  rw [he, hj, outBlk_apply]
  show _ = whole _ _ _ _ _ _ b N q
  unfold whole
  simp only [e0, e3, e1, bias_at, tid_at, diw_at]
  rfl

end Cert.Stid

end
-- ==== Proof.IdealRun.lean ====
/-
  The run of the kernel with its floats taken as extended reals: what its region leaves in the result array, and that it
  ends with its arguments as they were.
-/
module

public import proofs.«01_k».proof.Proof.Blocks

@[expose] public section

noncomputable section

namespace Cert.Stid

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable (m : (ℓ : Loc nD τ sig) → Buf (Elt Ideal) ℓ) (ρ : Dev nD → PrngReg)

/-- The proof data of the region: the arrays as the region finds them; after the body each input buffer holds its block and
    the output buffer the block of the result array, the parts outside the arrays filled with zeros nobody reads. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => win0_3.fill (grid0.coords t) (fun _ => (0 : EReal)) (iblk m c 3 t)
    | ⟨4, _⟩ => iblk m c 4 t
    | ⟨5, _⟩ => iblk m c 5 t
    | ⟨6, _⟩ => win0_6.fill (grid0.coords t) (fun _ => (0 : EReal)) (goalBlk m c t)
  Φ _ := Pipeline.ΦA spec0 c
  q _ := fullShare
  owed _ := 0

/-! ## What the body finds -/

/-- The series buffer holds the point's block, on the columns inside the array. -/
theorem before_0 (c : Dev nD) (t : Fin cfg0.N) (d : S288x12800.Idx → EReal) :
    (dats m 0 c).before 0 t d = win0_0.fill (grid0.coords t) d (iblk m c 0 t) :=
  (dats m 0 c).before_in_eq_fetched 0 rfl (fun _ => rfl)
    (fun t t' h => by
      have h' : win0_0.index t = win0_0.index t' := h
      funext a
      show Pipeline.Clip.of (win0_0.index t a) _ _ = Pipeline.Clip.of (win0_0.index t' a) _ _
      rw [h'])
    (fun t => win0_0.cut_fill _ _ _) t d

/-- The node buffer holds the point's block, on the columns inside the array. -/
theorem before_3 (c : Dev nD) (t : Fin cfg0.N) (d : S32x12800.Idx → EReal) :
    (dats m 0 c).before 3 t d = win0_3.fill (grid0.coords t) d (iblk m c 3 t) :=
  (dats m 0 c).before_in_eq_fetched 3 rfl (fun _ => rfl)
    (fun t t' h => by
      have h' : win0_3.index t = win0_3.index t' := h
      funext a
      show Pipeline.Clip.of (win0_3.index t a) _ _ = Pipeline.Clip.of (win0_3.index t' a) _ _
      rw [h'])
    (fun t => win0_3.cut_fill _ _ _) t d

/-- The body's row of the table of functions is the body at the point. -/
theorem defs_row (t : Fin cfg0.N) : (defs₀ (F := Ideal)) .tc cfg0.body (cfg0.bodyArgs t (cfg0.slots t)) = bodyAt0 t := by
  unfold defs₀; rw [Defs.onTc_tc]

set_option maxHeartbeats 1000000 in
/-- The body's obligation: from the blocks to the block of the result array, on the parts inside the arrays. -/
theorem body_obligation (c : Dev nD) :
    BodyObligationLoose (dats m 0 c) (defs₀ (F := Ideal)) Variants.none () Set.univ := fun t => by
  rw [bigSep_W0, bigSep_W0]
  simp only
  rw [defs_row, show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before0_1_of m (dats m 0 c) rfl (fun _ => rfl) t d1, before0_2_of m (dats m 0 c) rfl (fun _ => rfl) t d2,
    before_3 m c t d3, before0_4_of m (dats m 0 c) rfl (fun _ => rfl) t d4, before0_5_of m (dats m 0 c) rfl (fun _ => rfl) t d5]
  iapply (body_triple (F := Ideal) c Set.univ (grid0.coords t) _ _ _ _ _ _ _ _ _ _ _ _ _ _
    (win0_0.fill (grid0.coords t) d0 (iblk m c 0 t)) (iblk m c 1 t) (iblk m c 2 t)
    (win0_3.fill (grid0.coords t) d3 (iblk m c 3 t)) (iblk m c 4 t) (iblk m c 5 t) ((dats m 0 c).before 6 t d6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => (0 : EReal)) (iblk m c 0 t))))
    rw [win0_0.cut_fill]
  isplitl [H1]; · iexact H1
  isplitl [H2]; · iexact H2
  isplitl [H3]
  · iexists d3
    change _ ⊢ owns (c : Thread nD τ) (stage0_3 (cfg0.slots t 3)) fullShare (win0_3.fill (grid0.coords t) d3
      (win0_3.cut (grid0.coords t) (win0_3.fill (grid0.coords t) (fun _ => (0 : EReal)) (iblk m c 3 t))))
    rw [win0_3.cut_fill]
  isplitl [H4]; · iexact H4
  isplitl [H5]; · iexact H5
  iexists (outBlk (F := Ideal) (grid0.coords t) (win0_0.fill (grid0.coords t) d0 (iblk m c 0 t)) (iblk m c 1 t) (iblk m c 2 t)
    (win0_3.fill (grid0.coords t) d3 (iblk m c 3 t)) (iblk m c 4 t) (iblk m c 5 t))
  change _ ⊢ owns (c : Thread nD τ) (stage0_6 (cfg0.slots t 6)) fullShare (win0_6.fill (grid0.coords t) _
    (win0_6.cut (grid0.coords t) (win0_6.fill (grid0.coords t) (fun _ => (0 : EReal)) (goalBlk m c t))))
  rw [win0_6.cut_fill, ← block_eq m c t d0 d3, win0_6.fill_cut]

/-! ## The region's result array -/

/-- After the region the result array is `goal`: each of its blocks is, and the blocks cover it. -/
theorem final_6 (c : Dev nD) : (dats m 0 c).arrAt 6 cfg0.N = goal m c := by
  refine (dats m 0 c).arrAt_eq_of_covers 6 _ (by decide +kernel) fun t _ y => ?_
  exact win0_6.fill_xinj (grid0.coords t) (fun _ => (0 : EReal)) (goalBlk m c t) y

set_option backward.isDefEq.respectTransparency.types false in
/-- The run: the arguments end as launched, every counter at zero, and the last buffer as the host operations after the
    region leave it. -/
theorem run : θ_run defs (onTc (τ := τ) (main (F := Ideal))) (s₀ m ρ)
    (fun r => (∀ c : Dev nD, r.2.mem ((c : Thread nD τ).loc main_v21) = Pipeline.afterTail₀ cfgs (dats m) 0 (V0 m) [hostOps1] c main_v21
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  Pipeline.θ_run_frame_around cfgs (dats m) 0 launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)
    (Q' := _)
    (hQ' := fun _ h => ⟨fun c =>
      ⟨(h.1 c).2 main_v21 (Pipeline.mem_restRefs_of main_v21 (by decide) (by decide)),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c),
       ((h.1 c).2 main_arg3 (Pipeline.mem_restRefs_of main_arg3 (by decide) (by decide))).trans (W_main_arg3 m (dats m) c),
       ((h.1 c).2 main_arg4 (Pipeline.mem_restRefs_of main_arg4 (by decide) (by decide))).trans (W_main_arg4 m (dats m) c),
       ((h.1 c).2 main_arg5 (Pipeline.mem_restRefs_of main_arg5 (by decide) (by decide))).trans (W_main_arg5 m (dats m) c)⟩,
      h.2⟩)

end Cert.Stid

end
-- ==== Proof.Spec.lean ====
/-
  What both programs compute, written over the six arguments: for batch `b` and node `n` a row of 128 numbers.
-/
module

public import proofs.«01_k».proof.Proof.Cell

@[expose] public section

noncomputable section

namespace Cert.Stid

open Idealize.ShloMosaic

/-- The projected series of batch `b` and node `n`: the 36 numbers of its history (12 steps of 3 channels each), weighted,
    plus the bias. -/
def projected (x : (⟨4, ![8, 12, 50000, 3]⟩ : Shape).Idx → EReal) (w : (⟨2, ![32, 36]⟩ : Shape).Idx → EReal)
    (bias : (⟨1, ![32]⟩ : Shape).Idx → EReal) (b : Fin 8) (n : Fin 50000) (e : Fin 32) : EReal :=
  (∑ k : Fin 36, w (ix2 e k) * x (ix4 b ⟨k.val / 3, by omega⟩ n ⟨k.val % 3, by omega⟩)) + bias (ix1 e)

/-- The row of the result for batch `b` and node `n`: the projected series, the node's embedding, and the rows of the two
    tables that the last step's time of day and day of the week name. -/
def outRow (x : (⟨4, ![8, 12, 50000, 3]⟩ : Shape).Idx → EReal) (nd : (⟨2, ![50000, 32]⟩ : Shape).Idx → EReal)
    (td : (⟨2, ![288, 32]⟩ : Shape).Idx → EReal) (dw : (⟨2, ![7, 32]⟩ : Shape).Idx → EReal)
    (w : (⟨2, ![32, 36]⟩ : Shape).Idx → EReal) (bias : (⟨1, ![32]⟩ : Shape).Idx → EReal)
    (b : Fin 8) (n : Fin 50000) : Fin 128 → EReal :=
  cell (projected x w bias b n) (fun e => nd (ix2 n e)) (x (ix4 b 11 n 1)) (x (ix4 b 11 n 2))
    (fun e k => td (ix2 k e)) (fun e k => dw (ix2 k e))

end Cert.Stid

end
-- ==== Proof.Entry.lean ====
/-
  What the kernel's host operations before the region hand to it, read at one element, and what the operations after it
  make of the region's result.

  The series array has one row for each step, channel and batch: row `r` is batch `r % 8` and, of the 36 numbers of a
  history, number `r / 8`. The weights are spread accordingly: batch `b` has a copy of them with zeros in the columns of the
  other batches.
-/
module

public import proofs.«01_k».proof.Proof.Spec
public import proofs.«01_k».proof.Proof.IdealRun
public import Idealize.ShloMosaic.Lib.StableHlo.Run

@[expose] public section

noncomputable section

namespace Cert.Stid

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (c : Dev nD)

/-- The series array as the host lays it out. -/
theorem entry_series : V m c main_v1 = shapeCast S288x50000 (transpose S12x3x8x50000 [1, 3, 0, 2]
    (m ((c : Thread nD τ).loc main_arg0)) transposes_S8x12x50000x3_S12x3x8x50000_1_3_0_2) shapeCasts_S12x3x8x50000_S288x50000 := by
  show after (List.flatten [hostOps0]) (fun b => m (c, b)) (Proc.devRef .tc main_v1) = _
  simp only [List.flatten_cons, List.flatten_nil, List.append_nil]
  after_results
  rfl

theorem series_apply (r : Fin 288) (n : Fin 50000) : V m c main_v1 (ix2 r n)
    = m ((c : Thread nD τ).loc main_arg0) (ix4 ⟨r.val % 8, by omega⟩ ⟨r.val / 24, by omega⟩ n ⟨r.val / 8 % 3, by omega⟩) := by
  rw [entry_series]
  refine (shapeCast_apply _ _ _ (ix4 ⟨r.val / 24, by omega⟩ ⟨r.val / 8 % 3, by omega⟩ ⟨r.val % 8, by omega⟩ n) ?_).trans
    (transpose_apply _ _ _ _ (ix4 ⟨r.val % 8, by omega⟩ ⟨r.val / 24, by omega⟩ n ⟨r.val / 8 % 3, by omega⟩) fun a => ?_)
  · rw [Shape.rowMajor_val_two, Shape.rowMajor_val_four]
    show ((r.val / 24 * 3 + r.val / 8 % 3) * 8 + r.val % 8) * 50000 + n.val = r.val * 50000 + n.val
    omega
  · match a with
    | ⟨0, _⟩ => rfl
    | ⟨1, _⟩ => rfl
    | ⟨2, _⟩ => rfl
    | ⟨3, _⟩ => rfl

theorem nodes_entry_apply (e : Fin 32) (n : Fin 50000) :
    V m c main_v2 (ix2 e n) = m ((c : Thread nD τ).loc main_arg1) (ix2 n e) := by
  have h : V m c main_v2 = transpose S32x50000 [1, 0] (m ((c : Thread nD τ).loc main_arg1)) transposes_S50000x32_S32x50000_1_0 := by
    show after (List.flatten [hostOps0]) (fun b => m (c, b)) (Proc.devRef .tc main_v2) = _
    simp only [List.flatten_cons, List.flatten_nil, List.append_nil]
    after_results
  rw [h]
  refine transpose_apply _ _ _ _ (ix2 n e) fun a => ?_
  match a with
  | ⟨0, _⟩ => rfl
  | ⟨1, _⟩ => rfl

theorem tid_entry_apply (e : Fin 32) (k : Fin 288) :
    V m c main_v3 (ix2 e k) = m ((c : Thread nD τ).loc main_arg2) (ix2 k e) := by
  have h : V m c main_v3 = transpose S32x288 [1, 0] (m ((c : Thread nD τ).loc main_arg2)) transposes_S288x32_S32x288_1_0 := by
    show after (List.flatten [hostOps0]) (fun b => m (c, b)) (Proc.devRef .tc main_v3) = _
    simp only [List.flatten_cons, List.flatten_nil, List.append_nil]
    after_results
  rw [h]
  refine transpose_apply _ _ _ _ (ix2 k e) fun a => ?_
  match a with
  | ⟨0, _⟩ => rfl
  | ⟨1, _⟩ => rfl

theorem diw_entry_apply (e : Fin 32) (k : Fin 7) :
    V m c main_v4 (ix2 e k) = m ((c : Thread nD τ).loc main_arg3) (ix2 k e) := by
  have h : V m c main_v4 = transpose S32x7 [1, 0] (m ((c : Thread nD τ).loc main_arg3)) transposes_S7x32_S32x7_1_0 := by
    show after (List.flatten [hostOps0]) (fun b => m (c, b)) (Proc.devRef .tc main_v4) = _
    simp only [List.flatten_cons, List.flatten_nil, List.append_nil]
    after_results
  rw [h]
  refine transpose_apply _ _ _ _ (ix2 k e) fun a => ?_
  match a with
  | ⟨0, _⟩ => rfl
  | ⟨1, _⟩ => rfl

theorem bias_entry_apply (e : Fin 32) : V m c main_v5 (ix2 e 0) = m ((c : Thread nD τ).loc main_arg5) (ix1 e) := by
  have h : V m c main_v5 = shapeCast S32x1 (m ((c : Thread nD τ).loc main_arg5)) shapeCasts_S32_S32x1 := by
    show after (List.flatten [hostOps0]) (fun b => m (c, b)) (Proc.devRef .tc main_v5) = _
    simp only [List.flatten_cons, List.flatten_nil, List.append_nil]
    after_results
    rfl
  rw [h]
  refine shapeCast_apply _ _ _ (ix1 e) ?_
  rw [Shape.rowMajor_val_one, Shape.rowMajor_val_two]
  show e.val = e.val * 1 + 0
  omega

/-- The eight by eight array of ones on the diagonal, zeros elsewhere. -/
def diagonal : FVec Ideal S8x8 .f32 :=
  uitofp .f32 (cmpi .eq (addi (iotaInDim S8x8 32 0) (broadcastInDim S8x8 ![] bcast_S_S8x8 (constantI S_ 32 0#32))) (iotaInDim S8x8 32 1))

theorem diagonal_apply (b b' : Fin 8) : diagonal (ix2 b b') = if b = b' then (1 : EReal) else 0 := by
  have bit : ∀ b b' : Fin 8, IntOp.cmpi .eq (IntOp.addi (BitVec.ofNat 32 b.val) 0#32) (BitVec.ofNat 32 b'.val)
      = if b = b' then 1#1 else 0#1 := by decide +kernel
  have h : diagonal (ix2 b b') = (((IntOp.cmpi .eq (IntOp.addi (BitVec.ofNat 32 b.val) 0#32) (BitVec.ofNat 32 b'.val)).toNat : ℝ) : EReal) := rfl
  rw [h, bit]
  split_ifs <;> simp

/-- The weights spread over the batches. -/
def spread (w : FVec Ideal S32x36 .f32) : FVec Ideal S8x32x288 .f32 :=
  shapeCast S8x32x288
    (mulf
      (broadcastInDim S8x32x12x3x8 ![0, 1, 2, 3, 4] bcast_S1x32x12x3x1_S8x32x12x3x8_0_1_2_3_4
        (broadcastInDim S1x32x12x3x1 ![1, 2, 3] bcast_S32x12x3_S1x32x12x3x1_1_2_3 (shapeCast S32x12x3 w shapeCasts_S32x36_S32x12x3)))
      (broadcastInDim S8x32x12x3x8 ![0, 1, 2, 3, 4] bcast_S8x1x1x1x8_S8x32x12x3x8_0_1_2_3_4
        (broadcastInDim S8x1x1x1x8 ![0, 4] bcast_S8x8_S8x1x1x1x8_0_4 diagonal)))
    shapeCasts_S8x32x12x3x8_S8x32x288

theorem spread_apply (w : FVec Ideal S32x36 .f32) (b : Fin 8) (e : Fin 32) (r : Fin 288) :
    spread w (ix3 b e r) = w (ix2 e ⟨r.val / 8, by omega⟩) * (if b = (⟨r.val % 8, by omega⟩ : Fin 8) then (1 : EReal) else 0) := by
  unfold spread
  refine (shapeCast_apply _ _ _ (ix5 b e ⟨r.val / 24, by omega⟩ ⟨r.val / 8 % 3, by omega⟩ ⟨r.val % 8, by omega⟩) ?_).trans
    (congrArg₂ (· * ·) ?_ ?_)
  · rw [Shape.rowMajor_val_three, Shape.rowMajor_val_five]
    show (((b.val * 32 + e.val) * 12 + r.val / 24) * 3 + r.val / 8 % 3) * 8 + r.val % 8 = (b.val * 32 + e.val) * 288 + r.val
    omega
  · refine (broadcastInDim_apply _ _ _ _ (ix5 0 e ⟨r.val / 24, by omega⟩ ⟨r.val / 8 % 3, by omega⟩ 0) fun a => ?_).trans
      ((broadcastInDim_apply _ _ _ _ (ix3 e ⟨r.val / 24, by omega⟩ ⟨r.val / 8 % 3, by omega⟩) fun a => ?_).trans
        (shapeCast_apply _ _ _ (ix2 e ⟨r.val / 8, by omega⟩) ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
    · rw [Shape.rowMajor_val_two, Shape.rowMajor_val_three]
      show e.val * 36 + r.val / 8 = (e.val * 12 + r.val / 24) * 3 + r.val / 8 % 3
      omega
  · refine (broadcastInDim_apply _ _ _ _ (ix5 b 0 0 0 ⟨r.val % 8, by omega⟩) fun a => ?_).trans
      ((broadcastInDim_apply _ _ _ _ (ix2 b ⟨r.val % 8, by omega⟩) fun a => ?_).trans (diagonal_apply _ _))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl

theorem entry_weights : V m c main_v18 = spread (m ((c : Thread nD τ).loc main_arg4)) := by
  show after (List.flatten [hostOps0]) (fun b => m (c, b)) (Proc.devRef .tc main_v18) = _
  simp only [List.flatten_cons, List.flatten_nil, List.append_nil]
  after_results
  rfl

/-- What the operations after the region leave: the region's array with its last two axes swapped. -/
theorem tail_apply (b : Fin 8) (n : Fin 50000) (q : Fin 128) :
    Pipeline.afterTail₀ cfgs (dats m) 0 (V0 m) [hostOps1] c main_v21 (ix4 b q n 0) = goal m c (ix3 b n q) := by
  have h : Pipeline.afterTail₀ cfgs (dats m) 0 (V0 m) [hostOps1] c main_v21
      = broadcastInDim S8x128x50000x1 ![0, 1, 2] bcast_S8x128x50000_S8x128x50000x1_0_1_2
          (transpose S8x128x50000 [0, 2, 1] (goal m c) transposes_S8x50000x128_S8x128x50000_0_2_1) := by
    have h6 : Pipeline.withArrays (cfgs 0).spec c (V0 m c) (fun w => (dats m 0 c).arrAt w (cfgs 0).N) (Proc.devRef .tc main_v19)
        = goal m c :=
      (Pipeline.withArrays_arr spec0 launch0.win.arr_inj c (V0 m c) (fun w => (dats m 0 c).arrAt w cfg0.N) 6).trans (final_6 m c)
    unfold Pipeline.afterTail₀
    simp only [List.flatten_cons, List.flatten_nil, List.append_nil]
    after_results
    rw [h6]
  rw [h]
  refine (broadcastInDim_apply _ _ _ _ (ix3 b q n) fun a => ?_).trans (transpose_apply _ _ _ _ (ix3 b n q) fun a => ?_)
  · match a with
    | ⟨0, _⟩ => rfl
    | ⟨1, _⟩ => rfl
    | ⟨2, _⟩ => rfl
  · match a with
    | ⟨0, _⟩ => rfl
    | ⟨1, _⟩ => rfl
    | ⟨2, _⟩ => rfl

end Cert.Stid

end
-- ==== Proof.Reference.lean ====
/-
  The reference's result, read at one element: row `n` of batch `b` is `outRow` of the six arguments.
-/
module

public import proofs.«01_k».proof.Proof.Spec
public import proofs.«01_k».proof.Proof.Gen.ReferenceIdeal.Run
public import Idealize.ShloMosaic.Lib.ReduceAll

@[expose] public section

noncomputable section

namespace Cert.Stid

open Cert.ReferenceIdeal Cert.ReferenceIdeal.Gen
open Idealize.ShloMosaic Idealize.ShloMosaic.TcCoe Idealize.SL.Sem

/-- The numbers that a lookup of rows of 32 in a table of `N` rows is described by. -/
abbrev tableDims (N : ℕ) (wf : GatherDims.WF ⟨2, ![N, 32]⟩ S8x50000x1 S8x50000x32 [2] [0] [] [0] [] 2 ![1, 32]) :
    GatherDims ⟨2, ![N, 32]⟩ S8x50000x1 S8x50000x32 where
  offsetDims := [2]
  collapsedSliceDims := [0]
  operandBatchingDims := []
  startIndicesBatchingDims := []
  startIndexMap := [0]
  indexVectorDim := 2
  sliceSizes := ![1, 32]
  wf := wf

/-- Looking a row up: where the index word names row `k`, entry `e` of the result is the table's `(k, e)`. -/
theorem gather_table {N : ℕ} (wf : GatherDims.WF ⟨2, ![N, 32]⟩ S8x50000x1 S8x50000x32 [2] [0] [] [0] [] 2 ![1, 32])
    (x : (⟨2, ![N, 32]⟩ : Shape).Idx → EReal) (idx : IVec S8x50000x1 32) (b : Fin 8) (n : Fin 50000) (e : Fin 32) (k : Fin N)
    (h : (idx (ix3 b n 0)).toInt = k.val) : Host.gather (tableDims N wf) x idx (ix3 b n e) = x (ix2 k e) := by
  unfold Host.gather
  refine congrArg x (funext fun a => Fin.ext ?_)
  match a with
  | ⟨0, _⟩ =>
    have hm : (0 : Fin 2) ∈ (tableDims N wf).startIndexMap := List.mem_singleton.mpr rfl
    have at0 : (tableDims N wf).siIdx (ix3 b n e) ⟨List.idxOf (0 : Fin 2) (tableDims N wf).startIndexMap,
        List.idxOf_lt_length_iff.2 hm⟩ = ix3 b n 0 := by
      funext a
      refine Fin.ext ?_
      match a with
      | ⟨0, _⟩ => rfl
      | ⟨1, _⟩ => rfl
      | ⟨2, _⟩ => rfl
    show (tableDims N wf).start (ix3 b n e) idx 0 + (tableDims N wf).batchCoord (ix3 b n e) 0
      + (tableDims N wf).offCoord (ix3 b n e) 0 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos hm, at0, h]
    have := k.isLt
    show min ((k.val : ℤ)).toNat (N - 1) + 0 + 0 = k.val
    omega
  | ⟨1, _⟩ =>
    show (tableDims N wf).start (ix3 b n e) idx 1 + (tableDims N wf).batchCoord (ix3 b n e) 1
      + (tableDims N wf).offCoord (ix3 b n e) 1 = e.val
    rw [GatherDims.batchCoord_eq_zero _ _ _ List.not_mem_nil]
    have hk : (1 : Fin 2) ∈ (tableDims N wf).sKept :=
      (GatherDims.mem_sKept _ _).mpr ⟨fun h => absurd (List.mem_singleton.mp h) (show ¬(1 : Fin 2) = 0 by decide), List.not_mem_nil⟩
    have hn : (1 : Fin 2) ∉ (tableDims N wf).startIndexMap := fun h => absurd (List.mem_singleton.mp h) (show ¬(1 : Fin 2) = 0 by decide)
    unfold GatherDims.start GatherDims.offCoord
    rw [dif_neg hn, dif_pos hk]
    show 0 + 0 + _ = _
    rw [Nat.zero_add]
    rfl

/-- The index words the reference looks up: channel `off` of the last step, scaled and rounded down, clamped. -/
def words (off : Fin 4 → ℕ) (hs : S8x12x50000x3.Slices off S8x1x50000x1) (scale : BitVec 32) (hi : BitVec 32)
    (x : FVec Ideal S8x12x50000x3 .f32) : IVec S8x50000 32 :=
  minsi (broadcastInDim S8x50000 ![] bcast_S_S8x50000 (id (constantI S_ 32 hi)))
    (maxsi (broadcastInDim S8x50000 ![] bcast_S_S8x50000 (id (constantI S_ 32 0#32)))
      (fptosi 32 (mulf (shapeCast _ (extractStridedSlice S8x1x50000x1 off x hs) shapeCasts_S8x1x50000x1_S8x50000)
        (broadcastInDim S8x50000 ![] bcast_S_S8x50000 (constant S_ .f32 scale)))))

theorem words_apply (off : Fin 4 → ℕ) (hs : S8x12x50000x3.Slices off S8x1x50000x1) (scale hi : BitVec 32)
    (x : FVec Ideal S8x12x50000x3 .f32) (b : Fin 8) (n : Fin 50000) (ch : Fin 3)
    (h0 : off 0 = 0) (h1 : off 1 = 11) (h2 : off 2 = 0) (h3 : off 3 = ch.val) :
    words off hs scale hi x (ix2 b n) = clampWord hi (Ideal.fptosi 32 (x (ix4 b 11 n ch) * Ideal.ofBits .f32 scale)) := by
  have e : shapeCast S8x50000 (extractStridedSlice S8x1x50000x1 off x hs) shapeCasts_S8x1x50000x1_S8x50000 (ix2 b n)
      = x (ix4 b 11 n ch) := by
    refine (shapeCast_apply _ _ _ (ix4 b 0 n 0) ?_).trans (extractStridedSlice_apply _ _ _ _ _ fun a => ?_)
    · rw [Shape.rowMajor_val_two, Shape.rowMajor_val_four]
      show ((b.val * 1 + 0) * 50000 + n.val) * 1 + 0 = b.val * 50000 + n.val
      omega
    · match a with
      | ⟨0, _⟩ => show b.val = off 0 + b.val; omega
      | ⟨1, _⟩ => show 11 = off 1 + 0; omega
      | ⟨2, _⟩ => show n.val = off 2 + n.val; omega
      | ⟨3, _⟩ => show ch.val = off 3 + 0; omega
  unfold words
  rw [minsi_apply, maxsi_apply, fptosi_apply]
  exact congrArg (fun y => clampWord hi (Ideal.fptosi 32 (y * Ideal.ofBits .f32 scale))) e

/-- The index words as a lookup takes them: a negative one has the table's size added. -/
def wrapped (size : BitVec 32) (w : IVec S8x50000 32) : IVec S8x50000x1 32 :=
  broadcastInDim S8x50000x1 ![0, 1] bcast_S8x50000_S8x50000x1_0_1
    (select (cmpi .slt w (broadcastInDim S8x50000 ![] bcast_S_S8x50000 (constantI S_ 32 0#32)))
      (addi w (broadcastInDim S8x50000 ![] bcast_S_S8x50000 (constantI S_ 32 size))) w)

/-- Whether such a word lies between 0 and `hi`, one bit for each number looked up. -/
def inRange (hi : BitVec 32) (i : IVec S8x50000x1 32) : IVec S8x50000x32 1 :=
  broadcastInDim S8x50000x32 ![0, 1] bcast_S8x50000_S8x50000x32_0_1
    (Host.reduce IntOp.andi
      (andi (cmpi .sge i (broadcastInDim S8x50000x1 ![] bcast_S_S8x50000x1 (constantI S_ 32 0#32)))
        (cmpi .sle i (broadcastInDim S8x50000x1 ![0, 1, 2] bcast_S1x1x1_S8x50000x1_0_1_2
          (broadcastInDim S1x1x1 ![2] bcast_S1_S1x1x1_2 (constantI S1 32 hi)))))
      (constantI S_ 1 1#1) reducesTo_S8x50000x1_S8x50000_d2 h_S_)

/-- The reference's lookup of a table of `N` rows: an index out of range gives no number. -/
def taken {N : ℕ} (wf : GatherDims.WF ⟨2, ![N, 32]⟩ S8x50000x1 S8x50000x32 [2] [0] [] [0] [] 2 ![1, 32]) (hi size : BitVec 32)
    (tab : (⟨2, ![N, 32]⟩ : Shape).Idx → EReal) (w : IVec S8x50000 32) : FVec Ideal S8x50000x32 .f32 :=
  select (inRange hi (wrapped size w)) (Host.gather (tableDims N wf) tab (wrapped size w))
    (broadcastInDim S8x50000x32 ![] bcast_S_S8x50000x32 (constant S_ .f32 0x7FC00000#32))

/-- A word that is not negative stays as it is. -/
theorem wrapped_apply (size : BitVec 32) (w : IVec S8x50000 32) (b : Fin 8) (n : Fin 50000) (z : Fin 1)
    (h : IntOp.cmpi .slt (w (ix2 b n)) 0#32 = 0#1) : wrapped size w (ix3 b n z) = w (ix2 b n) := by
  refine (broadcastInDim_apply _ _ _ _ (ix2 b n) fun a => ?_).trans ?_
  · match a with
    | ⟨0, _⟩ => rfl
    | ⟨1, _⟩ => rfl
  · rw [ValueIdx.select_apply, cmpi_apply]
    show Scalar.select (IntOp.cmpi .slt (w (ix2 b n)) 0#32) _ _ = _
    rw [h, ValueIdx.select_zero]

/-- Where all words lie in range, all the bits are set. -/
theorem inRange_apply (hi : BitVec 32) (i : IVec S8x50000x1 32)
    (h : ∀ j, IntOp.cmpi .sge (i j) 0#32 = 1#1 ∧ IntOp.cmpi .sle (i j) hi = 1#1) (b : Fin 8) (n : Fin 50000) (e : Fin 32) :
    inRange hi i (ix3 b n e) = 1#1 := by
  refine (broadcastInDim_apply _ _ _ _ (ix2 b n) fun a => ?_).trans (Host.reduce_andi_one _ _ _ _ _ rfl fun j => ?_)
  · match a with
    | ⟨0, _⟩ => rfl
    | ⟨1, _⟩ => rfl
  · show IntOp.andi (IntOp.cmpi .sge (i j) 0#32) (IntOp.cmpi .sle (i j) hi) = 1#1
    rw [(h j).1, (h j).2]
    rfl

/-- Where every index word names a row of the table, the lookup gives the row, and no index is wrapped or out of range. -/
theorem taken_apply {N : ℕ} (wf : GatherDims.WF ⟨2, ![N, 32]⟩ S8x50000x1 S8x50000x32 [2] [0] [] [0] [] 2 ![1, 32]) (hi size : BitVec 32)
    (tab : (⟨2, ![N, 32]⟩ : Shape).Idx → EReal) (w : IVec S8x50000 32) (k : Fin 8 → Fin 50000 → Fin N)
    (hw : ∀ b n, w (ix2 b n) = BitVec.ofNat 32 (k b n).val)
    (inside : ∀ k : Fin N, IntOp.cmpi .slt (BitVec.ofNat 32 k.val) 0#32 = 0#1 ∧ IntOp.cmpi .sge (BitVec.ofNat 32 k.val) 0#32 = 1#1 ∧
      IntOp.cmpi .sle (BitVec.ofNat 32 k.val) hi = 1#1 ∧ (BitVec.ofNat 32 k.val).toInt = k.val)
    (b : Fin 8) (n : Fin 50000) (e : Fin 32) : taken wf hi size tab w (ix3 b n e) = tab (ix2 (k b n) e) := by
  have ix : ∀ (b : Fin 8) (n : Fin 50000) (z : Fin 1), wrapped size w (ix3 b n z) = BitVec.ofNat 32 (k b n).val := fun b n z =>
    (wrapped_apply size w b n z (by rw [hw]; exact (inside (k b n)).1)).trans (hw b n)
  have all : ∀ j, IntOp.cmpi .sge (wrapped size w j) 0#32 = 1#1 ∧ IntOp.cmpi .sle (wrapped size w j) hi = 1#1 := fun j => by
    obtain ⟨b', n', z, rfl⟩ : ∃ b' n' z, j = ix3 b' n' z := ⟨_, _, _, eq_ix3 j⟩
    rw [ix]
    exact ⟨(inside (k b' n')).2.1, (inside (k b' n')).2.2.1⟩
  unfold taken
  rw [ValueIdx.select_apply, inRange_apply hi _ all, ValueIdx.select_one]
  refine gather_table wf tab _ b n e (k b n) ?_
  rw [ix]
  exact (inside (k b n)).2.2.2

/-- The projection as the reference computes it. -/
def projection (x : FVec Ideal S8x12x50000x3 .f32) (w : FVec Ideal S32x36 .f32) (bias : FVec Ideal S32 .f32) :
    FVec Ideal S8x32x50000x1 .f32 :=
  addf (transpose S8x32x50000x1 [0, 3, 1, 2] (Host.dotGeneral dot_S8x36x50000x1_S32x36_S8x50000x1x32_1_1_023_0_n_n none
      (broadcastInDim S8x36x50000x1 ![0, 1, 2] bcast_S8x36x50000_S8x36x50000x1_0_1_2
        (transpose S8x36x50000 [0, 2, 1] (shapeCast _ (transpose S8x50000x12x3 [0, 2, 1, 3] x transposes_S8x12x50000x3_S8x50000x12x3_0_2_1_3)
          shapeCasts_S8x50000x12x3_S8x50000x36) transposes_S8x50000x36_S8x36x50000_0_2_1)) w) transposes_S8x50000x1x32_S8x32x50000x1_0_3_1_2)
    (broadcastInDim S8x32x50000x1 ![0, 1, 2, 3] bcast_S1x32x1x1_S8x32x50000x1_0_1_2_3
      (broadcastInDim S1x32x1x1 ![1] bcast_S32_S1x32x1x1_1 bias))

/-- A sum over the contracted axis of the reference's product. -/
theorem product_apply (l : FVec Ideal S8x36x50000x1 .f32) (w : FVec Ideal S32x36 .f32) (b : Fin 8) (n : Fin 50000) (e : Fin 32) :
    Host.dotGeneral dot_S8x36x50000x1_S32x36_S8x50000x1x32_1_1_023_0_n_n none l w (ix4 b n 0 e)
      = ∑ k : Fin 36, l (ix4 b k n 0) * w (ix2 e k) := by
  simp only [Host.dotGeneral]
  rw [Ideal.dotGeneral_apply, ← Equiv.sum_comp
    (ValueIdx.contrEquiv1 dot_S8x36x50000x1_S32x36_S8x50000x1x32_1_1_023_0_n_n 36 rfl rfl).symm]
  refine Finset.sum_congr rfl fun k _ => congrArg₂ (· * ·) (congrArg l (funext fun a => Fin.ext ?_)) (congrArg w (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

theorem projection_apply (x : FVec Ideal S8x12x50000x3 .f32) (w : FVec Ideal S32x36 .f32) (bias : FVec Ideal S32 .f32)
    (b : Fin 8) (n : Fin 50000) (e : Fin 32) : projection x w bias (ix4 b e n 0) = projected x w bias b n e := by
  unfold projection projected
  refine congrArg₂ (· + ·) ((transpose_apply _ _ _ _ (ix4 b n 0 e) fun a => ?_).trans ((product_apply _ _ b n e).trans
    (Finset.sum_congr rfl fun k _ => (mul_comm _ _).trans (congrArg (w (ix2 e k) * ·) ?_)))) ?_
  · match a with
    | ⟨0, _⟩ => rfl
    | ⟨1, _⟩ => rfl
    | ⟨2, _⟩ => rfl
    | ⟨3, _⟩ => rfl
  · refine (broadcastInDim_apply _ _ _ _ (ix3 b k n) fun a => ?_).trans ((transpose_apply _ _ _ _ (ix3 b n k) fun a => ?_).trans
      ((shapeCast_apply _ _ _ (ix4 b n ⟨k.val / 3, by omega⟩ ⟨k.val % 3, by omega⟩) ?_).trans
        (transpose_apply _ _ _ _ (ix4 b ⟨k.val / 3, by omega⟩ n ⟨k.val % 3, by omega⟩) fun a => ?_)))
    · match a with
      | ⟨0, _⟩ => rfl
      | ⟨1, _⟩ => rfl
      | ⟨2, _⟩ => rfl
    · match a with
      | ⟨0, _⟩ => rfl
      | ⟨1, _⟩ => rfl
      | ⟨2, _⟩ => rfl
    · rw [Shape.rowMajor_val_three, Shape.rowMajor_val_four]
      show ((b.val * 50000 + n.val) * 12 + k.val / 3) * 3 + k.val % 3 = (b.val * 50000 + n.val) * 36 + k.val
      omega
    · match a with
      | ⟨0, _⟩ => rfl
      | ⟨1, _⟩ => rfl
      | ⟨2, _⟩ => rfl
      | ⟨3, _⟩ => rfl
  · refine (broadcastInDim_apply _ _ _ _ (ix4 0 e 0 0) fun a => ?_).trans (broadcastInDim_apply _ _ _ _ (ix1 e) fun a => ?_)
    · match a with
      | ⟨0, _⟩ => rfl
      | ⟨1, _⟩ => rfl
      | ⟨2, _⟩ => rfl
      | ⟨3, _⟩ => rfl
    · match a with
      | ⟨0, _⟩ => rfl

/-- A looked-up array laid with its 32 numbers on the second axis. -/
theorem laid_apply (y : FVec Ideal S8x50000x32 .f32) (b : Fin 8) (n : Fin 50000) (e : Fin 32) :
    broadcastInDim S8x32x50000x1 ![0, 1, 2] bcast_S8x32x50000_S8x32x50000x1_0_1_2
      (transpose S8x32x50000 [0, 2, 1] y transposes_S8x50000x32_S8x32x50000_0_2_1) (ix4 b e n 0) = y (ix3 b n e) := by
  refine (broadcastInDim_apply _ _ _ _ (ix3 b e n) fun a => ?_).trans (transpose_apply _ _ _ _ (ix3 b n e) fun a => ?_)
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The node embeddings, the same for every batch. -/
theorem nodes_apply (nd : FVec Ideal S50000x32 .f32) (b : Fin 8) (n : Fin 50000) (e : Fin 32) :
    broadcastInDim S8x50000x32 ![0, 1, 2] bcast_S1x50000x32_S8x50000x32_0_1_2
      (broadcastInDim S1x50000x32 ![1, 2] bcast_S50000x32_S1x50000x32_1_2 nd) (ix3 b n e) = nd (ix2 n e) := by
  refine (broadcastInDim_apply _ _ _ _ (ix3 0 n e) fun a => ?_).trans (broadcastInDim_apply _ _ _ _ (ix2 n e) fun a => ?_)
  · match a with
    | ⟨0, _⟩ => rfl
    | ⟨1, _⟩ => rfl
    | ⟨2, _⟩ => rfl
  · match a with
    | ⟨0, _⟩ => rfl
    | ⟨1, _⟩ => rfl

/-- Four arrays of 32 one after the other on the second axis. -/
theorem joined_apply (f0 f1 f2 f3 : FVec Ideal S8x32x50000x1 .f32) (b : Fin 8) (n : Fin 50000) (q : Fin 128) :
    concatenate S8x128x50000x1 1 [⟨S8x32x50000x1, f0⟩, ⟨S8x32x50000x1, f1⟩, ⟨S8x32x50000x1, f2⟩, ⟨S8x32x50000x1, f3⟩]
        concatenates_S8x32x50000x1_S8x32x50000x1_S8x32x50000x1_S8x32x50000x1_S8x128x50000x1_d1 (ix4 b q n 0)
      = stack4 (fun e => f0 (ix4 b e n 0)) (fun e => f1 (ix4 b e n 0)) (fun e => f2 (ix4 b e n 0)) (fun e => f3 (ix4 b e n 0)) q := by
  have off : ∀ (e : Fin 32) (a : Fin S8x32x50000x1.rank), a.cast (rfl : S8x32x50000x1.rank = S8x128x50000x1.rank) ≠ (1 : Fin 4) →
      ((ix4 b e n 0 : S8x32x50000x1.Idx) a).val = ((ix4 b q n 0 : S8x128x50000x1.Idx) (a.cast rfl)).val := fun e a ha => by
    match a with
    | ⟨0, _⟩ => rfl
    | ⟨1, _⟩ => exact absurd rfl ha
    | ⟨2, _⟩ => rfl
    | ⟨3, _⟩ => rfl
  unfold stack4
  split_ifs with h0 h1 h2
  · exact concatenate_apply_piece (t := S8x128x50000x1) 1 _ _ _ 0 (by simp) S8x32x50000x1 _ rfl rfl 0 rfl (ix4 b ⟨q.val, h0⟩ n 0)
      (off _) (by show 0 + q.val = q.val; omega)
  · exact concatenate_apply_piece (t := S8x128x50000x1) 1 _ _ _ 1 (by simp) S8x32x50000x1 _ rfl rfl 32 rfl (ix4 b ⟨q.val - 32, by omega⟩ n 0)
      (off _) (by show 32 + (q.val - 32) = q.val; omega)
  · exact concatenate_apply_piece (t := S8x128x50000x1) 1 _ _ _ 2 (by simp) S8x32x50000x1 _ rfl rfl 64 rfl (ix4 b ⟨q.val - 64, by omega⟩ n 0)
      (off _) (by show 64 + (q.val - 64) = q.val; omega)
  · exact concatenate_apply_piece (t := S8x128x50000x1) 1 _ _ _ 3 (by simp) S8x32x50000x1 _ rfl rfl 96 rfl (ix4 b ⟨q.val - 96, by omega⟩ n 0)
      (off _) (by show 96 + (q.val - 96) = q.val; omega)

/-- The reference's result as a function of the six arguments, in the operations above. -/
def referenceOf (x : FVec Ideal S8x12x50000x3 .f32) (nd : FVec Ideal S50000x32 .f32) (td : FVec Ideal S288x32 .f32)
    (dw : FVec Ideal S7x32 .f32) (w : FVec Ideal S32x36 .f32) (bias : FVec Ideal S32 .f32) : FVec Ideal S8x128x50000x1 .f32 :=
  concatenate S8x128x50000x1 1 [⟨S8x32x50000x1, projection x w bias⟩,
    ⟨S8x32x50000x1, broadcastInDim S8x32x50000x1 ![0, 1, 2] bcast_S8x32x50000_S8x32x50000x1_0_1_2
      (transpose S8x32x50000 [0, 2, 1] (broadcastInDim S8x50000x32 ![0, 1, 2] bcast_S1x50000x32_S8x50000x32_0_1_2
        (broadcastInDim S1x50000x32 ![1, 2] bcast_S50000x32_S1x50000x32_1_2 nd)) transposes_S8x50000x32_S8x32x50000_0_2_1)⟩,
    ⟨S8x32x50000x1, broadcastInDim S8x32x50000x1 ![0, 1, 2] bcast_S8x32x50000_S8x32x50000x1_0_1_2
      (transpose S8x32x50000 [0, 2, 1] (taken gather_S288x32_S8x50000x1_S8x50000x32_2_0_n_n_0_2_132_wf 287#32 288#32 td
        (words ![0, 11, 0, 1] slices_S8x12x50000x3_S8x1x50000x1_0_11_0_1 0x43900000#32 287#32 x)) transposes_S8x50000x32_S8x32x50000_0_2_1)⟩,
    ⟨S8x32x50000x1, broadcastInDim S8x32x50000x1 ![0, 1, 2] bcast_S8x32x50000_S8x32x50000x1_0_1_2
      (transpose S8x32x50000 [0, 2, 1] (taken gather_S7x32_S8x50000x1_S8x50000x32_2_0_n_n_0_2_132_wf 6#32 7#32 dw
        (words ![0, 11, 0, 2] slices_S8x12x50000x3_S8x1x50000x1_0_11_0_2 0x40E00000#32 6#32 x)) transposes_S8x50000x32_S8x32x50000_0_2_1)⟩]
    concatenates_S8x32x50000x1_S8x32x50000x1_S8x32x50000x1_S8x32x50000x1_S8x128x50000x1_d1

theorem referenceOf_apply (x : FVec Ideal S8x12x50000x3 .f32) (nd : FVec Ideal S50000x32 .f32) (td : FVec Ideal S288x32 .f32)
    (dw : FVec Ideal S7x32 .f32) (w : FVec Ideal S32x36 .f32) (bias : FVec Ideal S32 .f32) (b : Fin 8) (n : Fin 50000) (q : Fin 128) :
    referenceOf x nd td dw w bias (ix4 b q n 0) = outRow x nd td dw w bias b n q := by
  have tid : ∀ k : Fin 288, IntOp.cmpi .slt (BitVec.ofNat 32 k.val) 0#32 = 0#1 ∧ IntOp.cmpi .sge (BitVec.ofNat 32 k.val) 0#32 = 1#1 ∧
      IntOp.cmpi .sle (BitVec.ofNat 32 k.val) 287#32 = 1#1 ∧ (BitVec.ofNat 32 k.val).toInt = k.val := by decide +kernel
  have diw : ∀ k : Fin 7, IntOp.cmpi .slt (BitVec.ofNat 32 k.val) 0#32 = 0#1 ∧ IntOp.cmpi .sge (BitVec.ofNat 32 k.val) 0#32 = 1#1 ∧
      IntOp.cmpi .sle (BitVec.ofNat 32 k.val) 6#32 = 1#1 ∧ (BitVec.ofNat 32 k.val).toInt = k.val := by decide +kernel
  unfold referenceOf
  rw [joined_apply]
  unfold outRow cell
  have e0 : (fun e => projection x w bias (ix4 b e n 0)) = projected x w bias b n := funext fun e => projection_apply x w bias b n e
  have e1 := funext fun e => (laid_apply (broadcastInDim S8x50000x32 ![0, 1, 2] bcast_S1x50000x32_S8x50000x32_0_1_2
        (broadcastInDim S1x50000x32 ![1, 2] bcast_S50000x32_S1x50000x32_1_2 nd)) b n e).trans (nodes_apply nd b n e)
  have e2 := funext fun e => (laid_apply _ b n e).trans
    (taken_apply gather_S288x32_S8x50000x1_S8x50000x32_2_0_n_n_0_2_132_wf 287#32 288#32 td
      (words ![0, 11, 0, 1] slices_S8x12x50000x3_S8x1x50000x1_0_11_0_1 0x43900000#32 287#32 x)
      (fun b n => tidCol (tidWord (x (ix4 b 11 n 1))))
      (fun b n => (words_apply _ _ _ _ x b n 1 rfl rfl rfl rfl).trans (clampWord_tid _)) tid b n e)
  have e3 := funext fun e => (laid_apply _ b n e).trans
    (taken_apply gather_S7x32_S8x50000x1_S8x50000x32_2_0_n_n_0_2_132_wf 6#32 7#32 dw
      (words ![0, 11, 0, 2] slices_S8x12x50000x3_S8x1x50000x1_0_11_0_2 0x40E00000#32 6#32 x)
      (fun b n => diwCol (diwWord (x (ix4 b 11 n 2))))
      (fun b n => (words_apply _ _ _ _ x b n 2 rfl rfl rfl rfl).trans (clampWord_diw _)) diw b n e)
  rw [e0, e1, e2, e3]

set_option maxRecDepth 8192 in
/-- The reference's run ends with that function of its arguments. -/
theorem result_reference (m : (ℓ : Loc nD τ sig) → Buf (Elt Ideal) ℓ) (c : Dev nD) :
    Cert.ReferenceIdeal.Value.res_main_v31 m c
      = referenceOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v31 referenceOf projection taken inRange wrapped words
  rfl

end Cert.Stid

end
-- ==== Proof.Equation.lean ====
/-
  The kernel's result and the reference's are the same: both hold `outRow` of the six arguments.

  The kernel's weighted sum runs over the 288 rows of the series array. Of these only the 36 rows of the batch in question
  have a weight other than zero, and zero times any extended real is zero; they are the reference's 36 summands.
-/
module

public import proofs.«01_k».proof.Proof.Entry
public import proofs.«01_k».proof.Proof.Reference

@[expose] public section

noncomputable section

namespace Cert.Stid

open Idealize.ShloMosaic Idealize.ShloMosaic.TcCoe Idealize.SL.Sem

/-- A sum over 288 rows, weighted by zero but for the rows of batch `b`, is the sum over that batch's 36 rows. -/
theorem sum_batch (w : Fin 36 → EReal) (x : Fin 8 → Fin 36 → EReal) (b : Fin 8) :
    (∑ r : Fin 288, (w ⟨r.val / 8, by omega⟩ * (if b = (⟨r.val % 8, by omega⟩ : Fin 8) then (1 : EReal) else 0))
        * x ⟨r.val % 8, by omega⟩ ⟨r.val / 8, by omega⟩) = ∑ k : Fin 36, w k * x b k := by
  rw [← Equiv.sum_comp (finProdFinEquiv (m := 36) (n := 8)), Fintype.sum_prod_type]
  refine Finset.sum_congr rfl fun k _ => (Finset.sum_congr rfl fun b' _ => ?_).trans
    ((Finset.sum_eq_single (f := fun b' => (w k * (if b = b' then (1 : EReal) else 0)) * x b' k) b
      (fun b' _ hb => ?_) (fun h => absurd (Finset.mem_univ _) h)).trans ?_)
  · have hk : (finProdFinEquiv (k, b')).val / 8 = k.val := by
      show (b'.val + 8 * k.val) / 8 = k.val
      omega
    have hb : (finProdFinEquiv (k, b')).val % 8 = b'.val := by
      show (b'.val + 8 * k.val) % 8 = b'.val
      omega
    have ek : (⟨(finProdFinEquiv (k, b')).val / 8, by omega⟩ : Fin 36) = k := Fin.ext hk
    have eb : (⟨(finProdFinEquiv (k, b')).val % 8, by omega⟩ : Fin 8) = b' := Fin.ext hb
    rw [ek, eb]
  · show (w k * (if b = b' then (1 : EReal) else 0)) * x b' k = 0
    rw [if_neg (Ne.symm hb), mul_zero, zero_mul]
  · show (w k * (if b = b then (1 : EReal) else 0)) * x b k = _
    rw [if_pos rfl, mul_one]

/-- A row of the region's result, where the arrays it is made of hold the six arguments as the host lays them out. -/
theorem whole_eq (xf : (⟨2, ![288, 50000]⟩ : Shape).Idx → EReal) (wb : (⟨3, ![8, 32, 288]⟩ : Shape).Idx → EReal)
    (b2 : (⟨2, ![32, 1]⟩ : Shape).Idx → EReal) (nd2 : (⟨2, ![32, 50000]⟩ : Shape).Idx → EReal)
    (td2 : (⟨2, ![32, 288]⟩ : Shape).Idx → EReal) (dw2 : (⟨2, ![32, 7]⟩ : Shape).Idx → EReal)
    (x : (⟨4, ![8, 12, 50000, 3]⟩ : Shape).Idx → EReal) (nd : (⟨2, ![50000, 32]⟩ : Shape).Idx → EReal)
    (td : (⟨2, ![288, 32]⟩ : Shape).Idx → EReal) (dw : (⟨2, ![7, 32]⟩ : Shape).Idx → EReal)
    (w : (⟨2, ![32, 36]⟩ : Shape).Idx → EReal) (bias : (⟨1, ![32]⟩ : Shape).Idx → EReal)
    (hx : ∀ (r : Fin 288) (n : Fin 50000), xf (ix2 r n) = x (ix4 ⟨r.val % 8, by omega⟩ ⟨r.val / 24, by omega⟩ n ⟨r.val / 8 % 3, by omega⟩))
    (hw : ∀ (b : Fin 8) (e : Fin 32) (r : Fin 288), wb (ix3 b e r)
      = w (ix2 e ⟨r.val / 8, by omega⟩) * (if b = (⟨r.val % 8, by omega⟩ : Fin 8) then (1 : EReal) else 0))
    (hb : ∀ e : Fin 32, b2 (ix2 e 0) = bias (ix1 e)) (hn : ∀ (e : Fin 32) (n : Fin 50000), nd2 (ix2 e n) = nd (ix2 n e))
    (ht : ∀ (e : Fin 32) (k : Fin 288), td2 (ix2 e k) = td (ix2 k e)) (hd : ∀ (e : Fin 32) (k : Fin 7), dw2 (ix2 e k) = dw (ix2 k e))
    (b : Fin 8) (n : Fin 50000) (q : Fin 128) : whole xf wb b2 nd2 td2 dw2 b n q = outRow x nd td dw w bias b n q := by
  have at_row : ∀ (r : Fin 288) (b : Fin 8) (l : Fin 12) (ch : Fin 3), r.val % 8 = b.val → r.val / 24 = l.val → r.val / 8 % 3 = ch.val →
      xf (ix2 r n) = x (ix4 b l n ch) := fun r b l ch h1 h2 h3 => by
    have e1 : (⟨r.val % 8, by omega⟩ : Fin 8) = b := Fin.ext h1
    have e2 : (⟨r.val / 24, by omega⟩ : Fin 12) = l := Fin.ext h2
    have e3 : (⟨r.val / 8 % 3, by omega⟩ : Fin 3) = ch := Fin.ext h3
    rw [hx, e1, e2, e3]
  have hp : (fun e : Fin 32 => (∑ r : Fin 288, wb (ix3 b e r) * xf (ix2 r n)) + b2 (ix2 e 0)) = projected x w bias b n := by
    funext e
    unfold projected
    refine congrArg₂ (· + ·) (Eq.trans (Finset.sum_congr rfl fun r _ => congrArg₂ (· * ·) (hw b e r) ?_)
      (sum_batch (fun k => w (ix2 e k)) (fun b k => x (ix4 b ⟨k.val / 3, by omega⟩ n ⟨k.val % 3, by omega⟩)) b)) (hb e)
    exact at_row r _ _ _ rfl (by show r.val / 24 = r.val / 8 / 3; omega) rfl
  unfold whole outRow
  rw [hp, funext fun e => hn e n, funext fun e => funext fun k => ht e k, funext fun e => funext fun k => hd e k,
    at_row ⟨272 + b.val, by omega⟩ b 11 1 (by show (272 + b.val) % 8 = b.val; omega)
      (by show (272 + b.val) / 24 = 11; omega) (by show (272 + b.val) / 8 % 3 = 1; omega),
    at_row ⟨280 + b.val, by omega⟩ b 11 2 (by show (280 + b.val) % 8 = b.val; omega)
      (by show (280 + b.val) / 24 = 11; omega) (by show (280 + b.val) / 8 % 3 = 2; omega)]

section Kernel

open Cert.KernelIdeal Cert.KernelIdeal.Gen

/-- The region's result is the row of the six arguments. -/
theorem goal_apply (m : (ℓ : Loc nD τ sig) → Buf (Elt Ideal) ℓ) (c : Dev nD) (b : Fin 8) (n : Fin 50000) (q : Fin 128) :
    goal m c (ix3 b n q)
      = outRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b n q :=
  whole_eq _ _ _ _ _ _ _ _ _ _ _ _ (series_apply m c)
    (fun b e r => (congrFun (entry_weights m c) (ix3 b e r)).trans (spread_apply _ b e r))
    (bias_entry_apply m c) (nodes_entry_apply m c) (tid_entry_apply m c) (diw_entry_apply m c) b n q

end Kernel

/-- The kernel's result is the reference's function of the kernel's arguments. -/
theorem result_kernel (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (dats m) 0 (Cert.KernelIdeal.Gen.V0 m) [Cert.KernelIdeal.Gen.hostOps1] c Cert.KernelIdeal.main_v21
      = referenceOf (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  funext i
  obtain ⟨b, q, n, z, rfl⟩ : ∃ (b : Fin 8) (q : Fin 128) (n : Fin 50000) (z : Fin 1), i = ix4 b q n z := ⟨_, _, _, _, eq_ix4 i⟩
  obtain rfl : z = 0 := Subsingleton.elim _ _
  exact (tail_apply m c b n q).trans ((goal_apply m c b n q).trans (referenceOf_apply _ _ _ _ _ _ b n q).symm)

end Cert.Stid

end
-- ==== Proof.lean ====
/-
  The proof of the claim: it puts together what the modules under proof/Proof/ prove.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealRun
public import proofs.«01_k».proof.Proof.Equation
public import Idealize.ShloMosaic.Adequacy
public import Idealize.ShloMosaic.Init

@[expose] public section

noncomputable section

namespace Cert.Proof

open Idealize.ShloMosaic Idealize.SL.Sem

/-- The kernel at the hardware's floats ends with its arguments unchanged and every counter at zero. -/
theorem frame_kernel : Cert.quiescent_Kernel := fun m ρ _ => Cert.StidFrame.run m ρ

/-- So does the kernel with its floats taken as extended reals. -/
theorem frame_ideal : Cert.quiescent_KernelIdeal := fun m ρ _ =>
  (θ_run Cert.KernelIdeal.defs _ _).mono (fun _ h => ⟨fun c => (h.1 c).2, h.2⟩) (Cert.Stid.run m ρ)

/-- So does the reference, which declares no counter at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same arguments, the two end with the same result. -/
theorem same_result : Cert.algebraic_KernelIdeal_ReferenceIdeal := by
  intro m g m' g' _ same
  refine ⟨_, (θ_run Cert.KernelIdeal.defs _ _).mono (fun _ h c => h.1 c) (Cert.Stid.run m g), ?_⟩
  refine (θ_run Cert.ReferenceIdeal.defs _ _).mono (fun r h c => ⟨?_, (h c).2⟩) (Cert.ReferenceIdeal.Value.run (F := Ideal) m' g')
  obtain ⟨h0, h1, h2, h3, h4, h5⟩ := same c
  rw [(h c).1, Cert.Stid.result_reference, h0, h1, h2, h3, h4, h5]
  exact (Cert.Stid.result_kernel m c).symm

theorem claim : Cert.Claim := ⟨Cert.Kernel.Gen.facts, Cert.KernelIdeal.Gen.facts, Cert.ReferenceIdeal.Gen.facts,
  frame_kernel, frame_ideal, frame_reference, trivial, same_result⟩

end Cert.Proof

end
